-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8192]⟩ : Shape).Idx, (Layout.block ⟨2, ![256, 8192]⟩ ⟨2, ![4096, 8192]⟩ 0 16 c ((Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![256, 8192]⟩ : Shape).Idx → _) i = 1#1 → r.2.mem ((c.tc : Thread Cert.KernelIdeal.nD Cert.KernelIdeal.τ).loc Cert.KernelIdeal.main_v6) i = (Layout.block ⟨2, ![256, 8192]⟩ ⟨2, ![4096, 8192]⟩ 0 16 c v0 : (⟨2, ![256, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 8192]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xC2700000#32
  let main_v1 : FVec F S4096x8192 .f32 := broadcastInDim S4096x8192 ![] bcast_S_S4096x8192 main_cst
  let main_v2 : IVec S4096x8192 1 := cmpf .oge main_v0 main_v1
  let main_cst_0 : FVec F S_ .f32 := constant S_ .f32 0x42700000#32
  let main_v3 : FVec F S4096x8192 .f32 := broadcastInDim S4096x8192 ![] bcast_S_S4096x8192 main_cst_0
  let main_v4 : IVec S4096x8192 1 := cmpf .ole main_v0 main_v3
  let main_v5 : IVec S4096x8192 1 := andi main_v2 main_v4
  main_v5
-- ==== Kernel.lean ====
abbrev S4096x256 : Shape := ⟨2, ![4096, 256]⟩
abbrev S4096x8192 : Shape := ⟨2, ![4096, 8192]⟩
abbrev S_ : Shape := ⟨0, ![]⟩
abbrev S1 : Shape := ⟨1, ![1]⟩
abbrev S256x8192 : Shape := ⟨2, ![256, 8192]⟩
abbrev S16x256x256 : Shape := ⟨3, ![16, 256, 256]⟩
abbrev S16 : Shape := ⟨1, ![16]⟩
abbrev S1x256x256 : Shape := ⟨3, ![1, 256, 256]⟩
abbrev S256x256 : Shape := ⟨2, ![256, 256]⟩

abbrev nBuf : Space → Nat
  | .hbm => 9
  | .vmem => 6
  | .smem => 1
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S4096x256, .bf16⟩
  | .local _ .vmem, ⟨5, _⟩ => ⟨S16x256x256, .bf16⟩
  | .local _ .smem, ⟨0, _⟩ => ⟨S1, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_2 : BitVec 32 := 0#32
  let v8 : BitVec 1 := Scalar.cmpi .ne v7 c0_i32_2
  v8

def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_38 : BitVec 32 := 1#32
  let v80 : BitVec 32 := Scalar.addi v2 c1_i32_38
  let c16_i32_39 : BitVec 32 := 16#32
  let v81 : BitVec 32 := Scalar.remsi v80 c16_i32_39
  let c1_i32_41 : BitVec 32 := 1#32
  let v82 : BitVec 32 := Scalar.muli v81 c1_i32_41
  let v83 : BitVec 32 := Scalar.addi c0_i32_42 v82
  v83.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_43 : BitVec 32 := 2#32
  let v84 : BitVec 32 := Scalar.addi v2 c2_i32_43
  let c16_i32_44 : BitVec 32 := 16#32
  let v85 : BitVec 32 := Scalar.remsi v84 c16_i32_44
  let c1_i32_46 : BitVec 32 := 1#32
  let v86 : BitVec 32 := Scalar.muli v85 c1_i32_46
  let v87 : BitVec 32 := Scalar.addi c0_i32_47 v86
  v87.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_48 : BitVec 32 := 3#32
  let v88 : BitVec 32 := Scalar.addi v2 c3_i32_48
  let c16_i32_49 : BitVec 32 := 16#32
  let v89 : BitVec 32 := Scalar.remsi v88 c16_i32_49
  let c1_i32_51 : BitVec 32 := 1#32
  let v90 : BitVec 32 := Scalar.muli v89 c1_i32_51
  let v91 : BitVec 32 := Scalar.addi c0_i32_52 v90
  v91.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_53 : BitVec 32 := 4#32
  let v92 : BitVec 32 := Scalar.addi v2 c4_i32_53
  let c16_i32_54 : BitVec 32 := 16#32
  let v93 : BitVec 32 := Scalar.remsi v92 c16_i32_54
  let c1_i32_56 : BitVec 32 := 1#32
  let v94 : BitVec 32 := Scalar.muli v93 c1_i32_56
  let v95 : BitVec 32 := Scalar.addi c0_i32_57 v94
  v95.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_58 : BitVec 32 := 5#32
  let v96 : BitVec 32 := Scalar.addi v2 c5_i32_58
  let c16_i32_59 : BitVec 32 := 16#32
  let v97 : BitVec 32 := Scalar.remsi v96 c16_i32_59
  let c1_i32_61 : BitVec 32 := 1#32
  let v98 : BitVec 32 := Scalar.muli v97 c1_i32_61
  let v99 : BitVec 32 := Scalar.addi c0_i32_62 v98
  v99.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_63 : BitVec 32 := 6#32
  let v100 : BitVec 32 := Scalar.addi v2 c6_i32_63
  let c16_i32_64 : BitVec 32 := 16#32
  let v101 : BitVec 32 := Scalar.remsi v100 c16_i32_64
  let c1_i32_66 : BitVec 32 := 1#32
  let v102 : BitVec 32 := Scalar.muli v101 c1_i32_66
  let v103 : BitVec 32 := Scalar.addi c0_i32_67 v102
  v103.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_68 : BitVec 32 := 7#32
  let v104 : BitVec 32 := Scalar.addi v2 c7_i32_68
  let c16_i32_69 : BitVec 32 := 16#32
  let v105 : BitVec 32 := Scalar.remsi v104 c16_i32_69
  let c1_i32_71 : BitVec 32 := 1#32
  let v106 : BitVec 32 := Scalar.muli v105 c1_i32_71
  let v107 : BitVec 32 := Scalar.addi c0_i32_72 v106
  v107.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_73 : BitVec 32 := 8#32
  let v108 : BitVec 32 := Scalar.addi v2 c8_i32_73
  let c16_i32_74 : BitVec 32 := 16#32
  let v109 : BitVec 32 := Scalar.remsi v108 c16_i32_74
  let c1_i32_76 : BitVec 32 := 1#32
  let v110 : BitVec 32 := Scalar.muli v109 c1_i32_76
  let v111 : BitVec 32 := Scalar.addi c0_i32_77 v110
  v111.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_78 : BitVec 32 := 9#32
  let v112 : BitVec 32 := Scalar.addi v2 c9_i32_78
  let c16_i32_79 : BitVec 32 := 16#32
  let v113 : BitVec 32 := Scalar.remsi v112 c16_i32_79
  let c1_i32_81 : BitVec 32 := 1#32
  let v114 : BitVec 32 := Scalar.muli v113 c1_i32_81
  let v115 : BitVec 32 := Scalar.addi c0_i32_82 v114
  v115.toNat
def k0_dev10 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_83 : BitVec 32 := 10#32
  let v116 : BitVec 32 := Scalar.addi v2 c10_i32_83
  let c16_i32_84 : BitVec 32 := 16#32
  let v117 : BitVec 32 := Scalar.remsi v116 c16_i32_84
  let c1_i32_86 : BitVec 32 := 1#32
  let v118 : BitVec 32 := Scalar.muli v117 c1_i32_86
  let v119 : BitVec 32 := Scalar.addi c0_i32_87 v118
  v119.toNat
def k0_dev11 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_88 : BitVec 32 := 11#32
  let v120 : BitVec 32 := Scalar.addi v2 c11_i32_88
  let c16_i32_89 : BitVec 32 := 16#32
  let v121 : BitVec 32 := Scalar.remsi v120 c16_i32_89
  let c1_i32_91 : BitVec 32 := 1#32
  let v122 : BitVec 32 := Scalar.muli v121 c1_i32_91
  let v123 : BitVec 32 := Scalar.addi c0_i32_92 v122
  v123.toNat
def k0_dev12 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v124 : BitVec 32 := Scalar.addi v2 c12_i32_93
  let c16_i32_94 : BitVec 32 := 16#32
  let v125 : BitVec 32 := Scalar.remsi v124 c16_i32_94
  let c1_i32_96 : BitVec 32 := 1#32
  let v126 : BitVec 32 := Scalar.muli v125 c1_i32_96
  let v127 : BitVec 32 := Scalar.addi c0_i32_97 v126
  v127.toNat
def k0_dev13 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v128 : BitVec 32 := Scalar.addi v2 c13_i32
  let c16_i32_98 : BitVec 32 := 16#32
  let v129 : BitVec 32 := Scalar.remsi v128 c16_i32_98
  let c1_i32_100 : BitVec 32 := 1#32
  let v130 : BitVec 32 := Scalar.muli v129 c1_i32_100
  let v131 : BitVec 32 := Scalar.addi c0_i32_101 v130
  v131.toNat
def k0_dev14 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v132 : BitVec 32 := Scalar.addi v2 c14_i32
  let c16_i32_102 : BitVec 32 := 16#32
  let v133 : BitVec 32 := Scalar.remsi v132 c16_i32_102
  let c1_i32_104 : BitVec 32 := 1#32
  let v134 : BitVec 32 := Scalar.muli v133 c1_i32_104
  let v135 : BitVec 32 := Scalar.addi c0_i32_105 v134
  v135.toNat
def k0_dev15 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_106 : BitVec 32 := 15#32
  let v136 : BitVec 32 := Scalar.addi v2 c15_i32_106
  let c16_i32_107 : BitVec 32 := 16#32
  let v137 : BitVec 32 := Scalar.remsi v136 c16_i32_107
  let c1_i32_109 : BitVec 32 := 1#32
  let v138 : BitVec 32 := Scalar.muli v137 c1_i32_109
  let v139 : BitVec 32 := Scalar.addi c0_i32_110 v138
  v139.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_116 : BitVec 32 := 0#32
  let c0_i32_117 : BitVec 32 := 0#32
  ![v2.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v146 : BitVec 32 := Scalar.muli v2 c256_i32
  let c0_i32_118 : BitVec 32 := 0#32
  ![v146.toNat, 0]
def k0_cond2 (i : grid0.Coords) : BitVec 1 :=
  let arg0 : BitVec 32 := BitVec.ofNat 32 (i 0).val
  let c0_i32_3 : BitVec 32 := 0#32
  let v9 : BitVec 1 := Scalar.cmpi .eq arg0 c0_i32_3
  let v10 : BitVec 32 := Scalar.extui v9
  let c0_i32_4 : BitVec 32 := 0#32
  let v11 : BitVec 1 := Scalar.cmpi .ne v10 c0_i32_4
  v11

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_38 : BitVec 32 := 1#32
  let v79 : BitVec 32 := Scalar.addi v2 c1_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev16 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_38 : BitVec 32 := 1#32
  let v79 : BitVec 32 := Scalar.addi v2 c1_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond3 (i : grid0.Coords) : BitVec 1 :=
  let arg0 : BitVec 32 := BitVec.ofNat 32 (i 0).val
  let c0_i32_5 : BitVec 32 := 0#32
  let v12 : BitVec 1 := Scalar.cmpi .eq arg0 c0_i32_5
  let v13 : BitVec 32 := Scalar.extui v12
  let c0_i32_6 : BitVec 32 := 0#32
  let v14 : BitVec 1 := Scalar.cmpi .ne v13 c0_i32_6
  v14

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_38 : BitVec 32 := 2#32
  let v79 : BitVec 32 := Scalar.addi v2 c2_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev17 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_38 : BitVec 32 := 2#32
  let v79 : BitVec 32 := Scalar.addi v2 c2_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond4 (i : grid0.Coords) : BitVec 1 :=
  let arg0 : BitVec 32 := BitVec.ofNat 32 (i 0).val
  let c0_i32_7 : BitVec 32 := 0#32
  let v15 : BitVec 1 := Scalar.cmpi .eq arg0 c0_i32_7
  let v16 : BitVec 32 := Scalar.extui v15
  let c0_i32_8 : BitVec 32 := 0#32
  let v17 : BitVec 1 := Scalar.cmpi .ne v16 c0_i32_8
  v17

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_38 : BitVec 32 := 3#32
  let v79 : BitVec 32 := Scalar.addi v2 c3_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev18 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_38 : BitVec 32 := 3#32
  let v79 : BitVec 32 := Scalar.addi v2 c3_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond5 (i : grid0.Coords) : BitVec 1 :=
  let arg0 : BitVec 32 := BitVec.ofNat 32 (i 0).val
  let c1_i32_9 : BitVec 32 := 1#32
  let v18 : BitVec 1 := Scalar.cmpi .eq arg0 c1_i32_9
  let v19 : BitVec 32 := Scalar.extui v18
  let c0_i32_10 : BitVec 32 := 0#32
  let v20 : BitVec 1 := Scalar.cmpi .ne v19 c0_i32_10
  v20

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_38 : BitVec 32 := 4#32
  let v79 : BitVec 32 := Scalar.addi v2 c4_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev19 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_38 : BitVec 32 := 4#32
  let v79 : BitVec 32 := Scalar.addi v2 c4_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond6 (i : grid0.Coords) : BitVec 1 :=
  let arg0 : BitVec 32 := BitVec.ofNat 32 (i 0).val
  let c2_i32 : BitVec 32 := 2#32
  let v21 : BitVec 1 := Scalar.cmpi .eq arg0 c2_i32
  let v22 : BitVec 32 := Scalar.extui v21
  let c0_i32_11 : BitVec 32 := 0#32
  let v23 : BitVec 1 := Scalar.cmpi .ne v22 c0_i32_11
  v23

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_38 : BitVec 32 := 5#32
  let v79 : BitVec 32 := Scalar.addi v2 c5_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev20 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_38 : BitVec 32 := 5#32
  let v79 : BitVec 32 := Scalar.addi v2 c5_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond7 (i : grid0.Coords) : BitVec 1 :=
  let arg0 : BitVec 32 := BitVec.ofNat 32 (i 0).val
  let c3_i32 : BitVec 32 := 3#32
  let v24 : BitVec 1 := Scalar.cmpi .eq arg0 c3_i32
  let v25 : BitVec 32 := Scalar.extui v24
  let c0_i32_12 : BitVec 32 := 0#32
  let v26 : BitVec 1 := Scalar.cmpi .ne v25 c0_i32_12
  v26

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_38 : BitVec 32 := 6#32
  let v79 : BitVec 32 := Scalar.addi v2 c6_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev21 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_38 : BitVec 32 := 6#32
  let v79 : BitVec 32 := Scalar.addi v2 c6_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond8 (i : grid0.Coords) : BitVec 1 :=
  let arg0 : BitVec 32 := BitVec.ofNat 32 (i 0).val
  let c4_i32 : BitVec 32 := 4#32
  let v27 : BitVec 1 := Scalar.cmpi .eq arg0 c4_i32
  let v28 : BitVec 32 := Scalar.extui v27
  let c0_i32_13 : BitVec 32 := 0#32
  let v29 : BitVec 1 := Scalar.cmpi .ne v28 c0_i32_13
  v29

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_38 : BitVec 32 := 7#32
  let v79 : BitVec 32 := Scalar.addi v2 c7_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev22 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_38 : BitVec 32 := 7#32
  let v79 : BitVec 32 := Scalar.addi v2 c7_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond9 (i : grid0.Coords) : BitVec 1 :=
  let arg0 : BitVec 32 := BitVec.ofNat 32 (i 0).val
  let c5_i32 : BitVec 32 := 5#32
  let v30 : BitVec 1 := Scalar.cmpi .eq arg0 c5_i32
  let v31 : BitVec 32 := Scalar.extui v30
  let c0_i32_14 : BitVec 32 := 0#32
  let v32 : BitVec 1 := Scalar.cmpi .ne v31 c0_i32_14
  v32

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_38 : BitVec 32 := 8#32
  let v79 : BitVec 32 := Scalar.addi v2 c8_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev23 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_38 : BitVec 32 := 8#32
  let v79 : BitVec 32 := Scalar.addi v2 c8_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond10 (i : grid0.Coords) : BitVec 1 :=
  let arg0 : BitVec 32 := BitVec.ofNat 32 (i 0).val
  let c6_i32 : BitVec 32 := 6#32
  let v33 : BitVec 1 := Scalar.cmpi .eq arg0 c6_i32
  let v34 : BitVec 32 := Scalar.extui v33
  let c0_i32_15 : BitVec 32 := 0#32
  let v35 : BitVec 1 := Scalar.cmpi .ne v34 c0_i32_15
  v35

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_38 : BitVec 32 := 9#32
  let v79 : BitVec 32 := Scalar.addi v2 c9_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev24 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_38 : BitVec 32 := 9#32
  let v79 : BitVec 32 := Scalar.addi v2 c9_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond11 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_16 : BitVec 32 := 0#32
  let v38 : BitVec 1 := Scalar.cmpi .ne v37 c0_i32_16
  v38

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_38 : BitVec 32 := 10#32
  let v79 : BitVec 32 := Scalar.addi v2 c10_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev25 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_38 : BitVec 32 := 10#32
  let v79 : BitVec 32 := Scalar.addi v2 c10_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond12 (i : grid0.Coords) : BitVec 1 :=
  let arg0 : BitVec 32 := BitVec.ofNat 32 (i 0).val
  let c8_i32 : BitVec 32 := 8#32
  let v39 : BitVec 1 := Scalar.cmpi .eq arg0 c8_i32
  let v40 : BitVec 32 := Scalar.extui v39
  let c0_i32_17 : BitVec 32 := 0#32
  let v41 : BitVec 1 := Scalar.cmpi .ne v40 c0_i32_17
  v41

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_38 : BitVec 32 := 11#32
  let v79 : BitVec 32 := Scalar.addi v2 c11_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev26 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_38 : BitVec 32 := 11#32
  let v79 : BitVec 32 := Scalar.addi v2 c11_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond13 (i : grid0.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_18 : BitVec 32 := 0#32
  let v44 : BitVec 1 := Scalar.cmpi .ne v43 c0_i32_18
  v44

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_38 : BitVec 32 := 12#32
  let v79 : BitVec 32 := Scalar.addi v2 c12_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev27 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_38 : BitVec 32 := 12#32
  let v79 : BitVec 32 := Scalar.addi v2 c12_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_cond14 (i : grid0.Coords) : BitVec 1 :=
  let arg0 : BitVec 32 := BitVec.ofNat 32 (i 0).val
  let c10_i32 : BitVec 32 := 10#32
  let v45 : BitVec 1 := Scalar.cmpi .eq arg0 c10_i32
  let v46 : BitVec 32 := Scalar.extui v45
  let c0_i32_19 : BitVec 32 := 0#32
  let v47 : BitVec 1 := Scalar.cmpi .ne v46 c0_i32_19
  v47

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let c0_i32_43 : BitVec 32 := 0#32
  ![v2.toNat, 0, 0]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v79 : BitVec 32 := Scalar.addi v2 c13_i32
  let c16_i32_38 : BitVec 32 := 16#32
  let v80 : BitVec 32 := Scalar.remsi v79 c16_i32_38
  let c256_i32 : BitVec 32 := 256#32
  let v81 : BitVec 32 := Scalar.muli v80 c256_i32
  let c0_i32_44 : BitVec 32 := 0#32
  ![v81.toNat, 0]
def k0_dev28 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v79 : BitVec 32 := Scalar.addi v2 c13_i32
  let c16_i32_38 : BitVec 32 := 16#32
  let v80 : BitVec 32 := Scalar.remsi v79 c16_i32_38
  let c1_i32_40 : BitVec 32 := 1#32
  let v82 : BitVec 32 := Scalar.muli v80 c1_i32_40
  let v83 : BitVec 32 := Scalar.addi c0_i32_41 v82
  v83.toNat
def k0_cond15 (i : grid0.Coords) : BitVec 1 :=
  let arg0 : BitVec 32 := BitVec.ofNat 32 (i 0).val
  let c11_i32 : BitVec 32 := 11#32
  let v48 : BitVec 1 := Scalar.cmpi .eq arg0 c11_i32
  let v49 : BitVec 32 := Scalar.extui v48
  let c0_i32_20 : BitVec 32 := 0#32
  let v50 : BitVec 1 := Scalar.cmpi .ne v49 c0_i32_20
  v50

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let c0_i32_43 : BitVec 32 := 0#32
  ![v2.toNat, 0, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v79 : BitVec 32 := Scalar.addi v2 c14_i32
  let c16_i32_38 : BitVec 32 := 16#32
  let v80 : BitVec 32 := Scalar.remsi v79 c16_i32_38
  let c256_i32 : BitVec 32 := 256#32
  let v81 : BitVec 32 := Scalar.muli v80 c256_i32
  let c0_i32_44 : BitVec 32 := 0#32
  ![v81.toNat, 0]
def k0_dev29 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v79 : BitVec 32 := Scalar.addi v2 c14_i32
  let c16_i32_38 : BitVec 32 := 16#32
  let v80 : BitVec 32 := Scalar.remsi v79 c16_i32_38
  let c1_i32_40 : BitVec 32 := 1#32
  let v82 : BitVec 32 := Scalar.muli v80 c1_i32_40
  let v83 : BitVec 32 := Scalar.addi c0_i32_41 v82
  v83.toNat
def k0_cond16 (i : grid0.Coords) : BitVec 1 :=
  let arg0 : BitVec 32 := BitVec.ofNat 32 (i 0).val
  let c12_i32 : BitVec 32 := 12#32
  let v51 : BitVec 1 := Scalar.cmpi .eq arg0 c12_i32
  let v52 : BitVec 32 := Scalar.extui v51
  let c0_i32_21 : BitVec 32 := 0#32
  let v53 : BitVec 1 := Scalar.cmpi .ne v52 c0_i32_21
  v53

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_43 : BitVec 32 := 0#32
  let c0_i32_44 : BitVec 32 := 0#32
  ![v2.toNat, 0, 0]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_38 : BitVec 32 := 15#32
  let v79 : BitVec 32 := Scalar.addi v2 c15_i32_38
  let c16_i32_39 : BitVec 32 := 16#32
  let v80 : BitVec 32 := Scalar.remsi v79 c16_i32_39
  let c256_i32 : BitVec 32 := 256#32
  let v81 : BitVec 32 := Scalar.muli v80 c256_i32
  let c0_i32_45 : BitVec 32 := 0#32
  ![v81.toNat, 0]
def k0_dev30 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_38 : BitVec 32 := 15#32
  let v79 : BitVec 32 := Scalar.addi v2 c15_i32_38
  let c16_i32_39 : BitVec 32 := 16#32
  let v80 : BitVec 32 := Scalar.remsi v79 c16_i32_39
  let c1_i32_41 : BitVec 32 := 1#32
  let v82 : BitVec 32 := Scalar.muli v80 c1_i32_41
  let v83 : BitVec 32 := Scalar.addi c0_i32_42 v82
  v83.toNat
def k0_off49 (i : grid0.Coords) (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let v4 : BitVec 32 := Scalar.addi v3 c16_i32_0
  let c16_i32_1 : BitVec 32 := 16#32
  let v5 : BitVec 32 := Scalar.remsi v4 c16_i32_1
  ![v5.toNat]
def k0_off50 (i : grid0.Coords) (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let v4 : BitVec 32 := Scalar.addi v3 c16_i32_0
  let c16_i32_1 : BitVec 32 := 16#32
  let v5 : BitVec 32 := Scalar.remsi v4 c16_i32_1
  let c0_i32_25 : BitVec 32 := 0#32
  let c0_i32_26 : BitVec 32 := 0#32
  ![v5.toNat, 0, 0]
def k0_off51 (i : grid0.Coords) (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let arg0 : BitVec 32 := BitVec.ofNat 32 (i 0).val
  let v3 : BitVec 32 := Scalar.subi v2 arg0
  let c16_i32_0 : BitVec 32 := 16#32
  let v4 : BitVec 32 := Scalar.addi v3 c16_i32_0
  let c16_i32_1 : BitVec 32 := 16#32
  let v5 : BitVec 32 := Scalar.remsi v4 c16_i32_1
  let v61 : Index := Scalar.indexCast v5
  let c0 : Index := 0#32
  let c0_29 : Index := 0#32
  ![v61.toNat, 0, 0]
def k0_cond17 (i : grid0.Coords) : BitVec 1 :=
  let arg0 : BitVec 32 := BitVec.ofNat 32 (i 0).val
  let c0_i32_32 : BitVec 32 := 0#32
  let v68 : BitVec 1 := Scalar.cmpi .eq arg0 c0_i32_32
  let v69 : BitVec 32 := Scalar.extui v68
  let c0_i32_33 : BitVec 32 := 0#32
  let v70 : BitVec 1 := Scalar.cmpi .ne v69 c0_i32_33
  v70

def k0_cond18 (i : grid0.Coords) : BitVec 1 :=
  let arg0 : BitVec 32 := BitVec.ofNat 32 (i 0).val
  let c0_i32_34 : BitVec 32 := 0#32
  let v71 : BitVec 1 := Scalar.cmpi .sgt arg0 c0_i32_34
  let c15_i32 : BitVec 32 := 15#32
  let v72 : BitVec 1 := Scalar.cmpi .slt arg0 c15_i32
  let v73 : BitVec 1 := Scalar.andi v71 v72
  let v74 : BitVec 32 := Scalar.extui v73
  let c0_i32_35 : BitVec 32 := 0#32
  let v75 : BitVec 1 := Scalar.cmpi .ne v74 c0_i32_35
  v75

def k0_cond19 (i : grid0.Coords) : BitVec 1 :=
  let arg0 : BitVec 32 := BitVec.ofNat 32 (i 0).val
  let c15_i32_36 : BitVec 32 := 15#32
  let v76 : BitVec 1 := Scalar.cmpi .eq arg0 c15_i32_36
  let v77 : BitVec 32 := Scalar.extui v76
  let c0_i32_37 : BitVec 32 := 0#32
  let v78 : BitVec 1 := Scalar.cmpi .ne v77 c0_i32_37
  v78

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.subi v0 arg0
  let c16_i32 : BitVec 32 := 16#32
  let v2 : BitVec 32 := Scalar.addi v1 c16_i32
  let c16_i32_0 : BitVec 32 := 16#32
  let v3 : BitVec 32 := Scalar.remsi v2 c16_i32_0
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Cells.lean ====
/-
# The places the devices talk about

The sixteen devices form the group of the residues mod 16: the partner at distance `o` ahead of device `c` is
`c + o`, the one `o` behind is `c - o`. This module names, for one device, the pieces of its two scratch
buffers and its semaphores, and says what the pieces hold:

* the row block `r` of the cast operand (`xRow r`, 256 rows of `x_bf`), meant for device `r`;
* the slot `s` of the receive buffer (`slotM s`), where the block coming from device `s` lands;
* the barrier cell, the sixteen receive cells, one per device a block comes from, and the sixteen send cells, one
  per distance (the one of distance zero is never used).

What each buffer holds is written once, as a function over the whole buffer (`xb`, `rb`); a piece holds its part
of it. `landed` says that a block copied into its slot is that part.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.StableHlo
public import Idealize.ShloMosaic.Lib.Tactic

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The two logics' copies -/

/-- The rounds of the devices' talk, each round's duties named by a device. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The pieces of the scratch buffers -/

theorem xRow_inb (r : Dev nD) : ∀ a, (![256 * r.val, 0] : Fin 2 → ℕ) a + S256x256.size a ≤ S4096x256.size a := by
  have := r.isLt
  intro a; fin_cases a
  · show 256 * r.val + 256 ≤ 4096; change r.val < 16 at this; omega
  · show 0 + 256 ≤ 256; omega
theorem slot_inb (s : Dev nD) : ∀ a, (![s.val, 0, 0] : Fin 3 → ℕ) a + S1x256x256.size a ≤ S16x256x256.size a := by
  have := s.isLt
  intro a; fin_cases a
  · show s.val + 1 ≤ 16; change s.val < 16 at this; omega
  · show 0 + 256 ≤ 256; omega
  · show 0 + 256 ≤ 256; omega

/-- Row block `r` of the cast operand. -/
abbrev xRow (r : Dev nD) : Memref sig .tc .vmem S256x256 .bf16 :=
  (Memref.whole cc0_scratch0).slice (Rect.unit (s := S4096x256) ![256 * r.val, 0] S256x256.size (xRow_inb r)) (fun _ => rfl)
/-- Slot `s` of the receive buffer. -/
abbrev slotM (s : Dev nD) : Memref sig .tc .vmem S256x256 .bf16 :=
  ((Memref.whole cc0_scratch1).slice (Rect.unit (s := S16x256x256) ![s.val, 0, 0] S1x256x256.size (slot_inb s)) (fun _ => rfl)).squeeze
    S256x256 squeezes_S1x256x256_S256x256

/-- The elements of row block `r`, and of slot `s`. -/
abbrev xSet (r : Dev nD) : Finset S4096x256.Idx := (Rect.unit (s := S4096x256) ![256 * r.val, 0] S256x256.size (xRow_inb r)).set
abbrev slotSet (s : Dev nD) : Finset S16x256x256.Idx := (Rect.unit (s := S16x256x256) ![s.val, 0, 0] S1x256x256.size (slot_inb s)).set

theorem xRow_set (r : Dev nD) : (xRow r).view.set = xSet r := View.set_slice_whole cc0_scratch0 _
theorem slotM_set (s : Dev nD) : (slotM s).view.set = slotSet s :=
  (View.set_reshape _ _).trans (View.set_slice_whole cc0_scratch1 _)

theorem xSet_disjoint (r r' : Dev nD) (h : r ≠ r') : Disjoint (xSet r) (xSet r') :=
  Ring.lead_disjoint (s := S4096x256) (NB := 16) 0 256 (fun b => ![256 * b.val, 0]) S256x256.size xRow_inb (fun _ => rfl) rfl r r' h
theorem xSet_cover : Finset.univ.biUnion xSet = Finset.univ :=
  Ring.lead_cover (s := S4096x256) (NB := 16) 0 256 (fun b => ![256 * b.val, 0]) S256x256.size xRow_inb (fun _ => rfl)
    (fun b a ha => by fin_cases a; exacts [absurd rfl ha, rfl]) rfl (fun a ha => by fin_cases a; exacts [absurd rfl ha, rfl]) rfl
theorem slotSet_disjoint (s s' : Dev nD) (h : s ≠ s') : Disjoint (slotSet s) (slotSet s') :=
  Ring.lead_disjoint (s := S16x256x256) (NB := 16) 0 1 (fun b => ![b.val, 0, 0]) S1x256x256.size slot_inb (fun b => (Nat.one_mul _).symm) rfl s s' h
theorem slotSet_cover : Finset.univ.biUnion slotSet = Finset.univ :=
  Ring.lead_cover (s := S16x256x256) (NB := 16) 0 1 (fun b => ![b.val, 0, 0]) S1x256x256.size slot_inb (fun b => (Nat.one_mul _).symm)
    (fun b a ha => by fin_cases a; exacts [absurd rfl ha, rfl, rfl]) rfl
    (fun a ha => by fin_cases a; exacts [absurd rfl ha, rfl, rfl]) rfl

/-! ## The semaphores -/

abbrev barS : Sem sig := barrier0
theorem sem_inb (s : Dev nD) : ∀ a, (![s.val] : Fin 1 → ℕ) a + S1.size a ≤ S16.size a := by
  have := s.isLt
  intro a; fin_cases a
  show s.val + 1 ≤ 16; change s.val < 16 at this; omega
/-- The receive semaphore of the block coming from device `s`, and the send semaphore of distance `o`. -/
def recvS (s : Dev nD) : DmaSem sig := ⟨20 + s.val, by have := s.isLt; change s.val < 16 at this; change 20 + s.val < 36; omega⟩
def sendS (o : Dev nD) : DmaSem sig := ⟨4 + o.val, by have := o.isLt; change o.val < 16 at this; change 4 + o.val < 36; omega⟩

theorem recvS_eq : ∀ s : Dev nD,
    ((cc0_scratch3.slice (Rect.unit (s := S16) ![s.val] S1.size (sem_inb s))).squeeze S_ squeezes_S1_S_).sem = recvS s := by
  decide +kernel
theorem sendS_eq : ∀ o : Dev nD,
    ((cc0_scratch2.slice (Rect.unit (s := S16) ![o.val] S1.size (sem_inb o))).squeeze S_ squeezes_S1_S_).sem = sendS o := by
  decide +kernel

abbrev barCell (c : Dev nD) : GSem nD τ sig := ((c : Thread nD τ), .reg barS)
abbrev recvCell (d s : Dev nD) : GSem nD τ sig := ((d : Thread nD τ), .dma (recvS s))
abbrev sendCell (c o : Dev nD) : GSem nD τ sig := ((c : Thread nD τ), .dma (sendS o))

theorem recvS_inj {s s' : Dev nD} (h : recvS s = recvS s') : s = s' := by
  have := congrArg Fin.val h; exact Fin.ext (by simpa [recvS] using this)
theorem sendS_inj {s s' : Dev nD} (h : sendS s = sendS s') : s = s' := by
  have := congrArg Fin.val h; exact Fin.ext (by simpa [sendS] using this)
theorem recvCell_inj {d s d' s' : Dev nD} (h : recvCell d s = recvCell d' s') : d = d' ∧ s = s' := by
  have h1 := congrArg (fun g : GSem nD τ sig => g.1.1) h
  have h2 := congrArg (fun g : GSem nD τ sig => g.2) h
  exact ⟨h1, recvS_inj (by injection h2)⟩

/-- The amount a block's transfer credits. -/
abbrev N : ℕ := (slotM 0).view.dmaCredit
theorem N_pos : 0 < N := View.dmaCredit_pos _ (by decide)
theorem slot_credit (s : Dev nD) : (slotM s).view.dmaCredit = N := rfl
theorem row_credit (r : Dev nD) : (xRow r).view.dmaCredit = N := rfl

/-! ## What the buffers hold -/

variable (X : Dev nD → Vec F S4096x256 .f32)

/-- The cast operand of device `c`. -/
def xb (c : Dev nD) : Vec F S4096x256 .bf16 := k0_pay4 (X c)
/-- Row `256 d + i` of a 4096-row operand. -/
def rowIx (d : Dev nD) (i : Fin 256) (j : Fin 256) : S4096x256.Idx :=
  fun | 0 => ⟨256 * d.val + i.val, by have hd : d.val < 16 := d.isLt; have hi := i.isLt; change _ < 4096; omega⟩ | 1 => j
/-- The receive buffer of device `d` once every block is in: slot `s` is row block `d` of device `s`'s operand. -/
def rb (d : Dev nD) : Vec F S16x256x256 .bf16 := fun i => xb X (i 0) (rowIx d (i 1) (i 2))

/-- A piece of the cast operand, of the receive buffer, at given contents of the whole buffer. -/
abbrev xPts (c r : Dev nD) (f : Vec F S4096x256 .bf16) : sProp 𝕄 := (xRow r).view.loc (c : Thread nD τ) ↦[(xRow r).view.set]{fullShare} f
abbrev slotPts (d s : Dev nD) (f : Vec F S16x256x256 .bf16) : sProp 𝕄 := (slotM s).view.loc (d : Thread nD τ) ↦[(slotM s).view.set]{fullShare} f
/-- A slot at contents not chosen. -/
abbrev slotAny (d s : Dev nD) : sProp 𝕄 := iprop(∃ f, slotPts d s f)

/-- The index of `x_bf` under place `y` of row block `r`. -/
theorem xRow_emb (r : Dev nD) (y : S256x256.Idx) : (xRow r).view.emb y = rowIx r (y 0) (y 1) := by
  funext a; apply Fin.ext
  change ((Rect.unit (s := S4096x256) ![256 * r.val, 0] S256x256.size (xRow_inb r)).emb y a : ℕ) = _
  rw [Rect.emb_apply]
  fin_cases a
  · show 256 * r.val + 1 * (y 0).val = 256 * r.val + (y 0).val; omega
  · show 0 + 1 * (y 1).val = (y 1).val; omega
/-- The index of `recv_buf` under place `y` of slot `s`. -/
theorem slotM_emb (s : Dev nD) (y : S256x256.Idx) :
    (slotM s).view.emb y = (Fin.cons s y : S16x256x256.Idx) := by
  change (Rect.unit (s := S16x256x256) ![s.val, 0, 0] S1x256x256.size (slot_inb s)).emb
    (Shape.reshapeEquiv squeezes_S1x256x256_S256x256.numel_eq y) = _
  rw [Shape.reshapeEquiv_cons_one]
  funext a; apply Fin.ext
  rw [Rect.emb_apply]
  fin_cases a
  · show s.val + 1 * 0 = s.val; omega
  · show 0 + 1 * (y 0).val = (y 0).val; omega
  · show 0 + 1 * (y 1).val = (y 1).val; omega

/-- A block of device `s`, copied into slot `s` of device `d`, is that slot's part of `rb d`. -/
theorem landed (d s : Dev nD) (fd : Vec F S16x256x256 .bf16) :
    slotPts d s ((slotM s).view.write (Elt F) fd ((xRow d).view.read (Elt F) (xb X s)) Finset.univ) = slotPts d s (rb X d) := by
  refine pointsTo_congr fun i hi => ?_
  obtain ⟨y, -, rfl⟩ := Finset.mem_map.mp hi
  rw [View.write_emb_of_mem _ _ (Finset.mem_univ y), View.read_apply, xRow_emb, slotM_emb]
  rfl

end Cert.KernelIdeal.Talk

end

end
-- ==== Proof.Protocol.lean ====
/-
# The protocol

Every cell has one round.

* **Barrier cell of device `c`**: one duty per other device `p`, one unit each. With its unit `p` hands over its own
  slot `c` (the place `c`'s block is to land on `p`) and the fact that `p`'s receive cell for `c` is in use.
* **Receive cell `(d, s)`**: one duty, paid by the transfer of device `s`'s block to device `d`: slot `s` of device `d`
  with that block in it. On the diagonal the transfer is a local copy, and its source comes back with it.
* **Send cell `(c, o)`**, `o ≠ 0`: one duty, paid by the same transfer at its source: row block `c + o` of device `c`.

Device `c` issues the transfer of distance `o` at grid point `o - 3` (natural subtraction: distances 1, 2 and 3 at the
first point), so what it still owes shrinks from point to point (`Ow`). At point `t` it waits for the block from
`c - t`. A receive cell stands at level 2 plus the distance its block travels; at point `t` a device waits at distance
`t` and owes distances of at least `t + 4` only, so no wait can be part of a circle of waits.
-/
module

public import Mathlib.Algebra.Group.Fin.Basic
public import proofs.«01_k».proof.Proof.Cells

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .f32)

/-! ## Arithmetic of the ring of devices -/

theorem dev_add_sub (c o : Dev nD) : c + o - c = o := add_sub_cancel_left (G := Fin 16) c o
theorem dev_sub_sub (c t : Dev nD) : c - (c - t) = t := sub_sub_cancel (G := Fin 16) c t
theorem dev_sub_add (c s : Dev nD) : c + (s - c) = s := add_sub_cancel (G := Fin 16) c s
theorem dev_add_eq_self {c o : Dev nD} : c + o = c ↔ o = 0 := add_eq_left (M := Fin 16)
theorem dev_add_val (c o : Dev nD) : (c + o).val = (c.val + o.val) % 16 := Fin.val_add c o
theorem dev_sub_val (c t : Dev nD) : (c - t).val = (c.val + 16 - t.val) % 16 := by
  rw [show (c - t).val = (16 - t.val + c.val) % 16 from Fin.sub_def c t ▸ rfl]
  have := t.isLt
  change t.val < 16 at this
  congr 1; omega

/-! ## Payloads and schedule -/

/-- What device `p` hands to device `c` with its barrier unit. -/
def barPay (c p : Dev nD) : sProp 𝕄 := iprop(slotAny p c ∗ reached ER (recvCell p c) 0)
/-- What the block from device `s` brings to device `d`. -/
def recvPay (d s : Dev nD) : sProp 𝕄 := iprop(slotPts d s (rb X d) ∗ if s = d then xPts d d (xb X d) else emp)
/-- What the transfer of distance `o` gives back to its sender. -/
def sendPay (c o : Dev nD) : sProp 𝕄 := xPts c (c + o) (xb X c)

/-- The duties of a semaphore's round on device `d`. -/
def semDuties (d : Dev nD) : SemLoc sig → Finset (Dev nD)
  | .reg _ => Finset.univ.erase d
  | .dma k => if 5 ≤ k.val then {0} else ∅
def semAmount : SemLoc sig → ℕ
  | .reg _ => 1
  | .dma _ => N
def semPay (d : Dev nD) (p : Dev nD) : SemLoc sig → sProp 𝕄
  | .reg _ => barPay d p
  | .dma k => if h : 20 ≤ k.val then recvPay X d ⟨k.val - 20, by have := k.isLt; change k.val < 36 at this; change _ < 16; omega⟩
      else if h' : 4 ≤ k.val then sendPay X d ⟨k.val - 4, by change _ < 16; omega⟩ else iprop(emp)

def talkRd : Rounds.Schedule (GSem nD τ sig) (Dev nD) 𝕄 where
  duties g r := if r = 0 ∧ g.1.2 = .tc then semDuties g.1.1 g.2 else ∅
  unitless _ := False
  amount g _ _ := semAmount g.2
  payload g _ p := semPay X g.1.1 p g.2
  amount_pos g _ _ _ := by
    obtain ⟨_, s⟩ := g
    cases s
    · exact Nat.one_pos
    · exact N_pos

instance talkRd_payload_storable (g : GSem nD τ sig) (r : ℕ) (d : Dev nD) :
    BI.Storable (upEmb : UEmb _ 𝕄) ((talkRd (F := F) X).payload g r d) := by
  show BI.Storable upEmb (semPay X g.1.1 d g.2)
  unfold semPay barPay recvPay sendPay
  (repeat' split) <;> infer_instance

section Sched

variable (c d s o : Dev nD)

theorem duties_zero (d : Dev nD) (sm : SemLoc sig) : (talkRd (F := F) X).duties ((d : Thread nD τ), sm) 0 = semDuties d sm :=
  if_pos (e := (∅ : Finset (Dev nD))) (show 0 = 0 ∧ (((d : Thread nD τ), sm) : GSem nD τ sig).1.2 = .tc from ⟨rfl, rfl⟩)
theorem duties_bar : (talkRd (F := F) X).duties (barCell c) 0 = Finset.univ.erase c := duties_zero X c _
theorem duties_recv : (talkRd (F := F) X).duties (recvCell d s) 0 = {0} := by
  rw [show (talkRd (F := F) X).duties (recvCell d s) 0 = _ from duties_zero X d _]
  exact if_pos (show 5 ≤ 20 + s.val by omega)
theorem duties_send (ho : o ≠ 0) : (talkRd (F := F) X).duties (sendCell c o) 0 = {0} := by
  rw [show (talkRd (F := F) X).duties (sendCell c o) 0 = _ from duties_zero X c _]
  have : o.val ≠ 0 := fun h => ho (Fin.ext h)
  exact if_pos (show 5 ≤ 4 + o.val by omega)
theorem duties_later (g : GSem nD τ sig) : ∀ r, 1 ≤ r → (talkRd (F := F) X).duties g r = ∅ :=
  fun r hr => if_neg (fun h => by omega)

theorem amount_bar (p : Dev nD) : (talkRd (F := F) X).amount (barCell c) 0 p = 1 := rfl
theorem amount_recv (p : Dev nD) : (talkRd (F := F) X).amount (recvCell d s) 0 p = N := rfl
theorem amount_send (p : Dev nD) : (talkRd (F := F) X).amount (sendCell c o) 0 p = N := rfl

theorem expect_bar : (talkRd (F := F) X).expect (barCell c) 0 = 15 := by
  unfold Schedule.expect Schedule.amountOf
  rw [duties_bar, Finset.sum_congr rfl fun p _ => amount_bar X c p, Finset.sum_const, Finset.card_erase_of_mem (Finset.mem_univ c)]
  rfl
theorem expect_recv : (talkRd (F := F) X).expect (recvCell d s) 0 = N := by
  unfold Schedule.expect Schedule.amountOf; rw [duties_recv, Finset.sum_singleton, amount_recv]
theorem expect_send (ho : o ≠ 0) : (talkRd (F := F) X).expect (sendCell c o) 0 = N := by
  unfold Schedule.expect Schedule.amountOf; rw [duties_send X c o ho, Finset.sum_singleton, amount_send]

theorem payload_bar (p : Dev nD) : (talkRd (F := F) X).payload (barCell c) 0 p = barPay c p := rfl
theorem payload_recv (p : Dev nD) : (talkRd (F := F) X).payload (recvCell d s) 0 p = recvPay X d s := by
  refine (dif_pos (show 20 ≤ 20 + s.val by omega)).trans (congrArg (recvPay X d) (Fin.ext ?_))
  show 20 + s.val - 20 = s.val; omega
theorem payload_send (p : Dev nD) : (talkRd (F := F) X).payload (sendCell c o) 0 p = sendPay X c o := by
  have := o.isLt
  change o.val < 16 at this
  refine (dif_neg (show ¬ 20 ≤ 4 + o.val by omega)).trans ((dif_pos (show 4 ≤ 4 + o.val by omega)).trans
    (congrArg (sendPay X c) (Fin.ext ?_)))
  show 4 + o.val - 4 = o.val; omega

theorem rest_bar : bigSep ((talkRd (F := F) X).duties (barCell c) 0 \ ∅) (fun p => (talkRd (F := F) X).payload (barCell c) 0 p)
    = bigSep (Finset.univ.erase c) (fun p => barPay c p) := by
  rw [Finset.sdiff_empty, duties_bar]; rfl
theorem rest_recv : bigSep ((talkRd (F := F) X).duties (recvCell d s) 0 \ ∅) (fun p => (talkRd (F := F) X).payload (recvCell d s) 0 p)
    = recvPay X d s := by
  rw [Finset.sdiff_empty, duties_recv, bigSep_singleton, payload_recv]
theorem rest_send (ho : o ≠ 0) : bigSep ((talkRd (F := F) X).duties (sendCell c o) 0 \ ∅) (fun p => (talkRd (F := F) X).payload (sendCell c o) 0 p)
    = sendPay X c o := by
  rw [Finset.sdiff_empty, duties_send X c o ho, bigSep_singleton, payload_send]

end Sched

/-- A cell whose round is over gives its counter back, at zero. -/
theorem close (κ : ℕ) (g : GSem nD τ sig) :
    iprop(cellInv ER (talkRd X) κ g ∗ atPos ER g (0 + 1) ∅ 0) ⊢ (|={Set.univ}=> semVal g 0 : sProp 𝕄) :=
  Rounds.cell_close ER (talkRd X) (Set.mem_univ κ) id (duties_later X g)

/-! ## What a device owes -/

/-- At point `t`, with the send blocks of the distances below `k` behind it, the device has issued the transfer of distance `o`. -/
abbrev Sent (t k : ℕ) (o : Dev nD) : Prop := o.val - 3 < t ∨ (o.val - 3 = t ∧ o.val < k)

/-- The transfers still to be issued then, -/
def unsent (t k : ℕ) : Finset (Dev nD) := Finset.univ.filter fun o => o ≠ 0 ∧ ¬ Sent t k o
/-- and what they will credit. -/
def Ow (c : Dev nD) (t k : ℕ) : CellTallies nD τ sig Unit := ∑ o ∈ unsent t k, tallyAt (recvCell (c + o) c) () N
/-- The barrier units still to be given, the distances below `k` done. -/
def unsig (k : ℕ) : Finset (Dev nD) := Finset.univ.filter fun o => o ≠ 0 ∧ ¬ o.val < k
def BarOw (c : Dev nD) (k : ℕ) : CellTallies nD τ sig Unit := Ow c 0 1 + ∑ o ∈ unsig k, tallyAt (barCell (c + o)) () 1
/-- What a device owes at launch. -/
def O₀ (c : Dev nD) : CellTallies nD τ sig Unit := BarOw c 1

theorem unsent_step (t : ℕ) (o : Dev nD) (ho : o ≠ 0) (h : o.val - 3 = t) :
    unsent t o.val = insert o (unsent t (o.val + 1)) ∧ o ∉ unsent t (o.val + 1) := by
  constructor
  · ext p
    simp only [unsent, Finset.mem_filter, Finset.mem_univ, true_and, Finset.mem_insert]
    constructor
    · rintro ⟨hp, hs⟩
      by_cases e : p = o
      · exact .inl e
      · have : p.val ≠ o.val := fun h => e (Fin.ext h)
        exact .inr ⟨hp, by omega⟩
    · rintro (rfl | ⟨hp, hs⟩)
      · exact ⟨ho, by omega⟩
      · exact ⟨hp, by omega⟩
  · simp only [unsent, Finset.mem_filter, not_and, Finset.mem_univ, true_and]
    intro _; omega
theorem unsent_skip (t : ℕ) (o : Dev nD) (h : o.val - 3 ≠ t) : unsent t (o.val + 1) = unsent t o.val := by
  ext p
  simp only [unsent, Finset.mem_filter, Finset.mem_univ, true_and]
  refine and_congr_right fun _ => not_congr ?_
  by_cases e : p = o
  · subst e; omega
  · have : p.val ≠ o.val := fun h => e (Fin.ext h)
    omega
theorem unsent_next (t : ℕ) : unsent (t + 1) 1 = unsent t 16 := by
  ext p
  simp only [unsent, Finset.mem_filter, Finset.mem_univ, true_and]
  refine and_congr_right fun hp => not_congr ?_
  have : p.val ≠ 0 := fun h => hp (Fin.ext h)
  have hl : p.val < 16 := p.isLt
  omega
theorem unsent_last (k : ℕ) : unsent 15 k = ∅ := by
  ext p
  have hl : p.val < 16 := p.isLt
  simp only [unsent, Finset.mem_filter, Finset.mem_univ, true_and, Finset.notMem_empty, iff_false, not_and, not_not]
  intro _; omega

theorem Ow_step (c : Dev nD) (t : ℕ) (o : Dev nD) (ho : o ≠ 0) (h : o.val - 3 = t) :
    Ow c t o.val = Ow c t (o.val + 1) + tallyAt (recvCell (c + o) c) () N := by
  unfold Ow
  rw [(unsent_step t o ho h).1, Finset.sum_insert (unsent_step t o ho h).2, add_comm]
theorem Ow_skip (c : Dev nD) (t : ℕ) (o : Dev nD) (h : o.val - 3 ≠ t) : Ow c t (o.val + 1) = Ow c t o.val := by
  unfold Ow; rw [unsent_skip t o h]
theorem Ow_next (c : Dev nD) (t : ℕ) : Ow c (t + 1) 1 = Ow c t 16 := by unfold Ow; rw [unsent_next]
theorem Ow_last (c : Dev nD) (k : ℕ) : Ow c 15 k = 0 := by unfold Ow; rw [unsent_last, Finset.sum_empty]

theorem unsig_step (o : Dev nD) (ho : o ≠ 0) : unsig o.val = insert o (unsig (o.val + 1)) ∧ o ∉ unsig (o.val + 1) := by
  constructor
  · ext p
    simp only [unsig, Finset.mem_filter, Finset.mem_univ, true_and, Finset.mem_insert]
    constructor
    · rintro ⟨hp, hs⟩
      by_cases e : p = o
      · exact .inl e
      · have : p.val ≠ o.val := fun h => e (Fin.ext h)
        exact .inr ⟨hp, by omega⟩
    · rintro (rfl | ⟨hp, hs⟩)
      · exact ⟨ho, by omega⟩
      · exact ⟨hp, by omega⟩
  · simp only [unsig, Finset.mem_filter, not_and, Finset.mem_univ, true_and]
    intro _; omega
theorem BarOw_step (c o : Dev nD) (ho : o ≠ 0) : BarOw c o.val = BarOw c (o.val + 1) + tallyAt (barCell (c + o)) () 1 := by
  unfold BarOw
  rw [(unsig_step o ho).1, Finset.sum_insert (unsig_step o ho).2, add_assoc, add_comm (tallyAt _ _ _)]
theorem BarOw_last (c : Dev nD) : BarOw c 16 = Ow c 0 1 := by
  unfold BarOw
  rw [show unsig 16 = ∅ from by decide, Finset.sum_empty, add_zero]

/-- Whatever a sum of tallies owes, one of its summands owes. -/
theorem owes_of_sum {T : Finset (Dev nD)} {cell : Dev nD → GSem nD τ sig} {k : ℕ} {g : GSem nD τ sig} {u : Unit}
    (h : 0 < (∑ o ∈ T, tallyAt (cell o) () k) g u) : ∃ o ∈ T, g = cell o := by
  by_contra hn
  push Not at hn
  have : (∑ o ∈ T, tallyAt (cell o) () k) g u = 0 := by
    rw [Finset.sum_apply, Finsupp.finset_sum_apply]
    refine Finset.sum_eq_zero fun o ho => ?_
    rw [tallyAt_apply, if_neg (fun h => hn o ho h.1)]
  omega
theorem owes_Ow {c : Dev nD} {t k : ℕ} {g : GSem nD τ sig} {u : Unit} (h : 0 < Ow c t k g u) :
    ∃ o, o ≠ 0 ∧ ¬ Sent t k o ∧ g = recvCell (c + o) c := by
  obtain ⟨o, ho, e⟩ := owes_of_sum h
  rw [unsent, Finset.mem_filter] at ho
  exact ⟨o, ho.2.1, ho.2.2, e⟩
theorem owes_BarOw {c : Dev nD} {k : ℕ} {g : GSem nD τ sig} {u : Unit} (h : 0 < BarOw c k g u) :
    (∃ o, g = recvCell (c + o) c) ∨ ∃ o, g = barCell (c + o) := by
  unfold BarOw at h
  rw [Pi.add_apply, Finsupp.add_apply] at h
  rcases Nat.eq_zero_or_pos (Ow c 0 1 g u) with h0 | h0
  · obtain ⟨o, -, e⟩ := owes_of_sum (by omega : 0 < (∑ o ∈ unsig k, tallyAt (barCell (c + o)) () 1) g u)
    exact .inr ⟨o, e⟩
  · obtain ⟨o, -, -, e⟩ := owes_Ow h0
    exact .inl ⟨o, e⟩

/-! ## The levels -/

def L (g : GSem nD τ sig) : Finset Unit := if g.1.2 = .tc then {()} else ∅
/-- The level of a semaphore of device `d`. -/
def semLv (d : Dev nD) : SemLoc sig → ℕ
  | .reg _ => 1
  | .dma k => if h : 20 ≤ k.val then
      2 + (d - (⟨k.val - 20, by have := k.isLt; change k.val < 36 at this; change _ < 16; omega⟩ : Dev nD)).val else 0
def lv (g : GSem nD τ sig) (_ : Unit) : ℕ := semLv g.1.1 g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (d s : Dev nD) (u : Unit) : lv (recvCell d s) u = 2 + (d - s).val := by
  refine (dif_pos (show 20 ≤ 20 + s.val by omega)).trans ?_
  have : (⟨20 + s.val - 20, by have := s.isLt; change s.val < 16 at this; change _ < 16; omega⟩ : Dev nD) = s := Fin.ext (by show 20 + s.val - 20 = s.val; omega)
  exact congrArg (fun s' : Dev nD => 2 + (d - s').val) this

/-- A wait on a cell of level at most `b` may owe the transfers not issued, each of a distance beyond. -/
theorem mayWait_Ow (c : Dev nD) (sm : SemLoc sig) (t k b : ℕ) (hb : lv ((c : Thread nD τ), sm) () ≤ b)
    (h : ∀ o : Dev nD, o ≠ 0 → ¬ Sent t k o → b < 2 + o.val) :
    (levAts L lv : sProp 𝕄) ⊢ MayWait (c : Thread nD τ) sm () (Ow c t k) :=
  MayOwe.of_cut (L := L) (lev := lv) b (fun p hp => by rw [Finset.mem_singleton.mp hp, L_tc]; exact Finset.mem_singleton_self _)
    (fun g u hg => by obtain ⟨o, -, -, rfl⟩ := owes_Ow hg; rw [L_tc]; exact Finset.mem_singleton_self _)
    (fun p hp => by rw [Finset.mem_singleton.mp hp]; exact hb)
    (fun g u hg => by
      obtain ⟨o, ho, hs, rfl⟩ := owes_Ow hg
      rw [lv_recv, dev_add_sub]
      exact h o ho hs)
theorem mayWait_bar (c : Dev nD) : (levAts L lv : sProp 𝕄) ⊢ MayWait (c : Thread nD τ) (.reg barS) () (Ow c 0 1) :=
  mayWait_Ow c _ 0 1 1 (le_refl 1) fun o _ _ => by omega
theorem mayWait_recv (c t' : Dev nD) :
    (levAts L lv : sProp 𝕄) ⊢ MayWait (c : Thread nD τ) (.dma (recvS (c - t'))) () (Ow c t'.val 16) :=
  mayWait_Ow c _ t'.val 16 (2 + t'.val) (by
    rw [show lv ((c : Thread nD τ), .dma (recvS (c - t'))) () = _ from lv_recv c (c - t') (), dev_sub_sub])
    fun o ho hs => by
      have hl : o.val < 16 := o.isLt
      have : o.val ≠ 0 := fun h => ho (Fin.ext h)
      omega
/-- A staging semaphore may be waited on whatever a device owes at launch or later. -/
theorem mayWait_low (c : Dev nD) (sm : SemLoc sig) (h : semLv c sm = 0) :
    ((levAts L lv : sProp 𝕄) ⊢ MayWait (c : Thread nD τ) sm () (O₀ c))
      ∧ ∀ t k, (levAts L lv : sProp 𝕄) ⊢ MayWait (c : Thread nD τ) sm () (Ow c t k) := by
  refine ⟨MayOwe.of_cut (L := L) (lev := lv) 0 (fun p hp => by rw [Finset.mem_singleton.mp hp, L_tc]; exact Finset.mem_singleton_self _)
    (fun g u hg => by rcases owes_BarOw hg with ⟨o, rfl⟩ | ⟨o, rfl⟩ <;> (rw [L_tc]; exact Finset.mem_singleton_self _))
    (fun p hp => by rw [Finset.mem_singleton.mp hp]; exact h.le)
    (fun g u hg => by
      rcases owes_BarOw hg with ⟨o, rfl⟩ | ⟨o, rfl⟩
      · rw [lv_recv]; omega
      · exact Nat.one_pos), fun t k => mayWait_Ow c sm t k 0 h.le fun o _ _ => by omega⟩

end Cert.KernelIdeal.Talk

end

end
-- ==== Proof.States.lean ====
/-
# The states of the talk

What a device holds between two operations, one item per distance `o` (the places at distance 0 are the device's own):
barrier units still to be given (`BarSt`), transfers to be issued or under way (`SendSt`), blocks to be waited for or
received (`RecvSt`), transfers whose source is to come back (`FinSt`). Each operation changes the item of one distance.
-/
module

public import proofs.«01_k».proof.Proof.Protocol

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .f32)

/-- The invariants of every cell of every device. -/
def invs (K : GSem nD τ sig → ℕ) : sProp 𝕄 :=
  iprop((bigSep Finset.univ fun c => cellInv ER (talkRd X) (K (barCell c)) (barCell c))
    ∗ (bigSep Finset.univ fun d => bigSep Finset.univ fun s => cellInv ER (talkRd X) (K (recvCell d s)) (recvCell d s))
    ∗ (bigSep Finset.univ fun c => bigSep Finset.univ fun o => cellInv ER (talkRd X) (K (sendCell c o)) (sendCell c o)))

instance invs_persistent (K : GSem nD τ sig → ℕ) : BI.Persistent (invs X K) := by
  unfold invs; infer_instance

theorem invs_bar (K : GSem nD τ sig → ℕ) (c : Dev nD) : invs X K ⊢ cellInv ER (talkRd X) (K (barCell c)) (barCell c) := by
  unfold invs
  exact sep_elim_left.trans (BI.bigSep_elim (Φ := fun c => cellInv ER (talkRd X) (K (barCell c)) (barCell c)) (Finset.mem_univ c))
theorem invs_recv (K : GSem nD τ sig → ℕ) (d s : Dev nD) : invs X K ⊢ cellInv ER (talkRd X) (K (recvCell d s)) (recvCell d s) := by
  unfold invs
  exact sep_elim_right.trans (sep_elim_left.trans
    ((BI.bigSep_elim (Φ := fun d => bigSep Finset.univ fun s => cellInv ER (talkRd X) (K (recvCell d s)) (recvCell d s)) (Finset.mem_univ d)).trans
      (BI.bigSep_elim (Φ := fun s => cellInv ER (talkRd X) (K (recvCell d s)) (recvCell d s)) (Finset.mem_univ s))))
theorem invs_send (K : GSem nD τ sig → ℕ) (c o : Dev nD) : invs X K ⊢ cellInv ER (talkRd X) (K (sendCell c o)) (sendCell c o) := by
  unfold invs
  exact sep_elim_right.trans (sep_elim_right.trans
    ((BI.bigSep_elim (Φ := fun c => bigSep Finset.univ fun o => cellInv ER (talkRd X) (K (sendCell c o)) (sendCell c o)) (Finset.mem_univ c)).trans
      (BI.bigSep_elim (Φ := fun o => cellInv ER (talkRd X) (K (sendCell c o)) (sendCell c o)) (Finset.mem_univ o))))

/-- Barrier units: to be given to `c + o`, with the own slot meant for its block. -/
def BarItem (c o : Dev nD) : sProp 𝕄 :=
  iprop(dutyTok ER (barCell (c + o)) 0 c ∗ reached ER (barCell (c + o)) 0 ∗ slotAny c (c + o) ∗ reached ER (recvCell c (c + o)) 0)
def BarSt (c : Dev nD) (k : ℕ) (o : Dev nD) : sProp 𝕄 := if o = 0 ∨ o.val < k then iprop(emp) else BarItem c o

/-- What a transfer of distance `o` needs of the sender's own before the barrier, -/
def PreItem (c o : Dev nD) : sProp 𝕄 :=
  iprop(atPos ER (sendCell c o) 0 ∅ 0 ∗ dutyTok ER (sendCell c o) 0 0 ∗ reached ER (sendCell c o) 0 ∗ dutyTok ER (recvCell (c + o) c) 0 0)
/-- and when it is issued: the place it lands on and the rows it takes are in hand as well. -/
def SendItem (c o : Dev nD) : sProp 𝕄 :=
  iprop(PreItem c o ∗ reached ER (recvCell (c + o) c) 0 ∗ slotAny (c + o) c ∗ xPts c (c + o) (xb X c))
/-- The transfer is under way. -/
def FlyItem (c o : Dev nD) : sProp 𝕄 := iprop(atPos ER (sendCell c o) 0 ∅ 0 ∗ cred (tallyAt (sendCell c o) () N))
def SendSt (c : Dev nD) (t k : ℕ) (o : Dev nD) : sProp 𝕄 :=
  if o = 0 then semVal (sendCell c 0) 0 else if Sent t k o then FlyItem c o else SendItem X c o

/-- A block at distance `o` behind, before and after the wait for it. -/
def WaitItem (c o : Dev nD) : sProp 𝕄 := iprop(atPos ER (recvCell c (c - o)) 0 ∅ 0 ∗ cred (tallyAt (recvCell c (c - o)) () N))
def GotItem (c o : Dev nD) : sProp 𝕄 :=
  iprop(semVal (recvCell c (c - o)) 0 ∗ slotPts c (c - o) (rb X c) ∗ if o = 0 then xPts c c (xb X c) else emp)
def RecvSt (c : Dev nD) (t : ℕ) (o : Dev nD) : sProp 𝕄 := if o.val < t then GotItem X c o else WaitItem c o

/-- At the end: the transfers whose source is back, and those still under way. -/
def BackItem (c o : Dev nD) : sProp 𝕄 := iprop(semVal (sendCell c o) 0 ∗ xPts c (c + o) (xb X c))
def FinSt (c : Dev nD) (k : ℕ) (o : Dev nD) : sProp 𝕄 :=
  if o = 0 then semVal (sendCell c 0) 0 else if o.val < k then BackItem X c o else FlyItem c o

/-! ## One item changes -/

theorem BarSt_step (c o : Dev nD) (ho : o ≠ 0) :
    bigSep Finset.univ (BarSt (F := F) c o.val) ⊢ iprop(BarItem c o ∗ bigSep Finset.univ (BarSt c (o.val + 1))) := by
  have h0 : BarSt (F := F) c o.val o = BarItem c o := if_neg (by rintro (h | h); exacts [ho h, lt_irrefl _ h])
  have h1 : BarSt (F := F) c (o.val + 1) o = iprop(emp) := if_pos (.inr (Nat.lt_succ_self _))
  refine (BI.bigSep_univ_update (Ψ := BarSt (F := F) c (o.val + 1)) o fun p hp => ?_).trans ?_
  · have : p.val ≠ o.val := fun h => hp (Fin.ext h)
    unfold BarSt
    exact if_congr (or_congr_right (by omega)) rfl rfl
  rw [h0, h1]
  iintro ⟨Hi, Hr⟩
  isplitl [Hi]; · iexact Hi
  iapply Hr; iempintro

theorem SendSt_skip (c : Dev nD) (t : ℕ) (o : Dev nD) (h : o.val - 3 ≠ t) :
    bigSep Finset.univ (SendSt X c t (o.val + 1)) = bigSep Finset.univ (SendSt X c t o.val) := by
  refine BI.bigSep_congr fun p _ => ?_
  unfold SendSt
  refine if_congr Iff.rfl rfl (if_congr ?_ rfl rfl)
  by_cases e : p = o
  · subst e; omega
  · have : p.val ≠ o.val := fun h => e (Fin.ext h)
    omega
theorem SendSt_step (c : Dev nD) (t : ℕ) (o : Dev nD) (ho : o ≠ 0) (h : o.val - 3 = t) :
    bigSep Finset.univ (SendSt X c t o.val) ⊢ iprop(SendItem X c o ∗ (FlyItem c o -∗ bigSep Finset.univ (SendSt X c t (o.val + 1)))) := by
  have h0 : SendSt X c t o.val o = SendItem X c o := (if_neg ho).trans (if_neg (by omega))
  have h1 : SendSt X c t (o.val + 1) o = FlyItem c o := (if_neg ho).trans (if_pos (by omega))
  rw [← h0, ← h1]
  refine BI.bigSep_univ_update o fun p hp => ?_
  have : p.val ≠ o.val := fun h => hp (Fin.ext h)
  unfold SendSt
  exact if_congr Iff.rfl rfl (if_congr (by omega) rfl rfl)
theorem SendSt_next (c : Dev nD) (t : ℕ) : bigSep Finset.univ (SendSt X c t 16) = bigSep Finset.univ (SendSt X c (t + 1) 1) := by
  refine BI.bigSep_congr fun p _ => ?_
  unfold SendSt
  by_cases e : p = 0
  · rw [if_pos e, if_pos e]
  · rw [if_neg e, if_neg e]
    refine if_congr ?_ rfl rfl
    have : p.val ≠ 0 := fun h => e (Fin.ext h)
    have hl : p.val < 16 := p.isLt
    omega
theorem SendSt_first (c : Dev nD) (p : Dev nD) : SendSt X c 0 1 p = if p = 0 then semVal (sendCell c 0) 0 else SendItem X c p := by
  unfold SendSt
  by_cases e : p = 0
  · rw [if_pos e, if_pos e]
  · rw [if_neg e, if_neg e]
    have : p.val ≠ 0 := fun h => e (Fin.ext h)
    exact if_neg (by omega)
theorem SendSt_last (c : Dev nD) : bigSep Finset.univ (SendSt X c 15 16) = bigSep Finset.univ (FinSt X c 1) := by
  refine BI.bigSep_congr fun p _ => ?_
  unfold SendSt FinSt
  by_cases e : p = 0
  · rw [if_pos e, if_pos e]
  · rw [if_neg e, if_neg e]
    have : p.val ≠ 0 := fun h => e (Fin.ext h)
    have hl : p.val < 16 := p.isLt
    rw [if_pos (by omega), if_neg (by omega)]

theorem FinSt_step (c o : Dev nD) (ho : o ≠ 0) :
    bigSep Finset.univ (FinSt X c o.val) ⊢ iprop(FlyItem c o ∗ (BackItem X c o -∗ bigSep Finset.univ (FinSt X c (o.val + 1)))) := by
  have h0 : FinSt X c o.val o = FlyItem c o := (if_neg ho).trans (if_neg (lt_irrefl _))
  have h1 : FinSt X c (o.val + 1) o = BackItem X c o := (if_neg ho).trans (if_pos (Nat.lt_succ_self _))
  rw [← h0, ← h1]
  refine BI.bigSep_univ_update o fun p hp => ?_
  have : p.val ≠ o.val := fun h => hp (Fin.ext h)
  unfold FinSt
  exact if_congr Iff.rfl rfl (if_congr (by omega) rfl rfl)

theorem RecvSt_step (c t : Dev nD) :
    bigSep Finset.univ (RecvSt X c t.val) ⊢ iprop(WaitItem c t ∗ (GotItem X c t -∗ bigSep Finset.univ (RecvSt X c (t.val + 1)))) := by
  have h0 : RecvSt X c t.val t = WaitItem c t := if_neg (lt_irrefl _)
  have h1 : RecvSt X c (t.val + 1) t = GotItem X c t := if_pos (Nat.lt_succ_self _)
  rw [← h0, ← h1]
  refine BI.bigSep_univ_update t fun p hp => ?_
  have : p.val ≠ t.val := fun h => hp (Fin.ext h)
  unfold RecvSt
  exact if_congr (by omega) rfl rfl

end Cert.KernelIdeal.Talk

end

end
-- ==== Proof.Steps.lean ====
/-
# One operation at a time

The rule of each of the kernel's operations that talk, over the states of `States`: a barrier unit, the barrier wait, the
local copy, a transfer, the wait for a block, the wait for a transfer's source. Offsets and semaphores are variables with
equations, so one rule serves the operation at every distance; the program's own forms are substituted by them.
-/
module

public import proofs.«01_k».proof.Proof.States

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .f32) (K : GSem nD τ sig → ℕ) (c : Dev nD)

abbrev 𝒱₀ : Variants := Variants.none

/-- A weakest precondition on device `c`. -/
local notation "WP" => wp frame (wpE (defs₀ (F := F)) 𝒱₀ (c : Thread nD τ) none) Set.univ

/-- A BARRIER UNIT to the device at distance `o`. -/
theorem wp_unit (o : Dev nD) (ho : o ≠ 0) {n : Dev nD} (hn : n = c + o) {sm : Sem sig} (hsm : sm = barS) (W : Waits sig Unit)
    {α : Type} {k : PUnit → Prog (TpuEff nD τ sig (Elt F) Λ₀ .tc) α} {Q : α → sProp 𝕄} :
    iprop(invs X K ∗ bigSep Finset.univ (BarSt (F := F) c o.val) ∗ owes (c : Thread nD τ) (BarOw c o.val) W)
      ⊢ iprop(((bigSep Finset.univ (BarSt (F := F) c (o.val + 1)) ∗ owes (c : Thread nD τ) (BarOw c (o.val + 1)) W) -∗ WP (k ⟨⟩) Q)
        -∗ WP (.op (.semSignal (n, .tc) sm (1#32).toInt) k) Q) := by
  subst hn hsm
  iintro ⟨#HI, HB, HO⟩ Hk
  ihave #HIb := (invs_bar X K (c + o)) $$ HI
  ihave ⟨Hi, HB⟩ := (BarSt_step c o ho) $$ HB
  unfold BarItem
  icases Hi with ⟨Ht, #Hr, Hs, #HrV⟩
  iapply (Rounds.wp_signal 𝒱₀ ER (talkRd X) (c : Thread nD τ) none (dst := ((c + o : Dev nD) : Thread nD τ)) (sem := barS) (r := 0) (d := c)
      (κ := K (barCell (c + o))) (by rw [duties_bar]; exact Finset.mem_erase.mpr ⟨fun h => ho (dev_add_eq_self.mp h.symm), Finset.mem_univ _⟩)
      ((amount_bar X (c + o) c).trans (by decide)) () (BarOw c (o.val + 1)) (BarOw_step c o ho)) $$ [HO Ht Hs]
  · isplitr; · iexact HIb
    isplitl [HO]; · iexact HO
    isplitl [Ht]; · iexact Ht
    isplitl [Hs]
    · rw [payload_bar]; unfold barPay
      isplitl [Hs]; · iexact Hs
      iexact HrV
    · iexact Hr
  iintro HO
  iapply Hk
  isplitl [HB]; · iexact HB
  iexact HO

/-- The BARRIER WAIT: every other device's slot, and the barrier cell's counter back. -/
theorem wp_barrier {sm : Sem sig} (hsm : sm = barS) (W : Waits sig Unit)
    {α : Type} {k : PUnit → Prog (TpuEff nD τ sig (Elt F) Λ₀ .tc) α} {Q : α → sProp 𝕄} :
    iprop(invs X K ∗ levAts L lv ∗ cred (tallyAt (barCell c) () 15) ∗ atPos ER (barCell c) 0 ∅ 0 ∗ owes (c : Thread nD τ) (Ow c 0 1) W)
      ⊢ iprop(((semVal (barCell c) 0 ∗ (bigSep (Finset.univ.erase c) fun p => barPay c p)
            ∗ owes (c : Thread nD τ) (Ow c 0 1) (insert (SemLoc.reg barS, ()) W)) -∗ WP (k ⟨⟩) Q)
        -∗ WP (.op (.semWait sm (15#32).toInt) k) Q) := by
  subst hsm
  iintro ⟨#HI, #Hlev, Hc, Hat, HO⟩ Hk
  ihave #HIb := (invs_bar X K c) $$ HI
  iapply (Rounds.wp_wait_rest_token 𝒱₀ ER (talkRd X) (c : Thread nD τ) none (κ := K (barCell c))
      (wpE_semWait_eq 𝒱₀ (c : Thread nD τ) none Set.univ) (Set.mem_univ _) () (O := Ow c 0 1) (W := W) (R := 0) (m := 0) (T := ∅)
      (by rw [expect_bar]; decide)) $$ [Hc HO Hat]
  · isplitr; · iexact HIb
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  imod (close X (K (barCell c)) (barCell c)) $$ [Hat] with Hz
  · isplitr; · iexact HIb
    iexact Hat
  iapply Hk
  isplitl [Hz]; · iexact Hz
  isplitl [Hp]; · iexact Hp
  iexact HO

/-- The LOCAL COPY of the own row block into the own slot. -/
theorem wp_own {rS : DmaSem sig} (hrS : rS = recvS c)
    {offd : Fin 3 → ℕ} (hd : offd = ![c.val, 0, 0]) {hdi : ∀ a, offd a + S1x256x256.size a ≤ S16x256x256.size a}
    {offs : Fin 2 → ℕ} (hs : offs = ![256 * c.val, 0]) {hsi : ∀ a, offs a + S256x256.size a ≤ S4096x256.size a}
    {hw₁ : ((Memref.whole cc0_scratch0).slice (Rect.unit (s := S4096x256) offs S256x256.size hsi) (fun _ => rfl)).view.WordExact}
    {hw₂ : (((Memref.whole cc0_scratch1).slice (Rect.unit (s := S16x256x256) offd S1x256x256.size hdi) (fun _ => rfl)).squeeze
      S256x256 squeezes_S1x256x256_S256x256).view.WordExact}
    {hty : DmaTarget.Typed (nD := nD) .vmem (.dma rS) (DmaTarget.here (nD := nD) (τ := τ) (p := .tc) (((Memref.whole cc0_scratch1).slice (Rect.unit (s := S16x256x256) offd S1x256x256.size hdi) (fun _ => rfl)).squeeze
      S256x256 squeezes_S1x256x256_S256x256))}
    {α : Type} {k : PUnit → Prog (TpuEff nD τ sig (Elt F) Λ₀ .tc) α} {Q : α → sProp 𝕄} :
    iprop(invs X K ∗ xPts c c (xb X c) ∗ slotAny c c ∗ dutyTok ER (recvCell c c) 0 0 ∗ reached ER (recvCell c c) 0)
      ⊢ iprop((cred (tallyAt (recvCell c c) () N) -∗ WP (k ⟨⟩) Q)
        -∗ WP (.op (.enqueueDma ((Memref.whole cc0_scratch0).slice (Rect.unit (s := S4096x256) offs S256x256.size hsi) (fun _ => rfl))
            (.here (((Memref.whole cc0_scratch1).slice (Rect.unit (s := S16x256x256) offd S1x256x256.size hdi) (fun _ => rfl)).squeeze
              S256x256 squeezes_S1x256x256_S256x256)) (.dma rS) hw₁ hw₂ hty) k) Q) := by
  subst hrS hd hs
  iintro ⟨#HI, Hx, ⟨%fd, Hs⟩, Ht, Hr⟩ Hk
  ihave #HIr := (invs_recv X K c c) $$ HI
  iapply (Rounds.wp_copy_pointsTo 𝒱₀ ER (talkRd X) (c : Thread nD τ) none (src := xRow c) (dst := slotM c) (sem := .dma (recvS c)) (q := fullShare)
      (fs := xb X c) (fd := fd) (r := 0) (d := 0) (κ := K (recvCell c c)) (by rw [duties_recv]; exact Finset.mem_singleton_self _) () N
      rfl (amount_recv X c c 0)
      (by rw [payload_recv]; unfold recvPay; rw [if_pos rfl, ← landed X c c fd])) $$ [Hx Hs Ht Hr]
  · isplitr; · iexact HIr
    isplitl [Hx]; · iexact Hx
    isplitl [Hs]; · iexact Hs
    isplitl [Ht]; · iexact Ht
    iexact Hr
  iexact Hk

/-- The TRANSFER to the device at distance `o`. -/
theorem wp_transfer (o : Dev nD) (ho : o ≠ 0) (t : ℕ) (ht : o.val - 3 = t)
    {n : Dev nD} (hn : n = c + o) {sS : DmaSem sig} (hsS : sS = sendS o) {rS : DmaSem sig} (hrS : rS = recvS c)
    {offd : Fin 3 → ℕ} (hd : offd = ![c.val, 0, 0]) {hdi : ∀ a, offd a + S1x256x256.size a ≤ S16x256x256.size a}
    {offs : Fin 2 → ℕ} (hs : offs = ![256 * (c + o).val, 0]) {hsi : ∀ a, offs a + S256x256.size a ≤ S4096x256.size a}
    {hsc : (((Memref.whole cc0_scratch1).slice (Rect.unit (s := S16x256x256) offd S1x256x256.size hdi) (fun _ => rfl)).squeeze
      S256x256 squeezes_S1x256x256_S256x256 : Memref sig (Dev.tc n : Thread nD τ).2.kind .vmem S256x256 .bf16).view.ref.isScScratch = false}
    {hw₁ : ((Memref.whole cc0_scratch0).slice (Rect.unit (s := S4096x256) offs S256x256.size hsi) (fun _ => rfl)).view.WordExact}
    {hw₂ : (((Memref.whole cc0_scratch1).slice (Rect.unit (s := S16x256x256) offd S1x256x256.size hdi) (fun _ => rfl)).squeeze
      S256x256 squeezes_S1x256x256_S256x256).view.WordExact}
    {hty : DmaTarget.Typed .vmem (.dma rS) (DmaTarget.remote (p := .tc) (Dev.tc n : Thread nD τ) (((Memref.whole cc0_scratch1).slice (Rect.unit (s := S16x256x256) offd S1x256x256.size hdi) (fun _ => rfl)).squeeze
      S256x256 squeezes_S1x256x256_S256x256) (.dma sS) hsc)} (W : Waits sig Unit)
    {α : Type} {k : PUnit → Prog (TpuEff nD τ sig (Elt F) Λ₀ .tc) α} {Q : α → sProp 𝕄} :
    iprop(invs X K ∗ SendItem X c o ∗ owes (c : Thread nD τ) (Ow c t o.val) W)
      ⊢ iprop(((FlyItem c o ∗ owes (c : Thread nD τ) (Ow c t (o.val + 1)) W) -∗ WP (k ⟨⟩) Q)
        -∗ WP (.op (.enqueueDma ((Memref.whole cc0_scratch0).slice (Rect.unit (s := S4096x256) offs S256x256.size hsi) (fun _ => rfl))
            (.remote (Dev.tc n : Thread nD τ) (((Memref.whole cc0_scratch1).slice (Rect.unit (s := S16x256x256) offd S1x256x256.size hdi) (fun _ => rfl)).squeeze
              S256x256 squeezes_S1x256x256_S256x256) (.dma sS) hsc) (.dma rS) hw₁ hw₂ hty) k) Q) := by
  subst hn hsS hrS hd hs
  unfold SendItem PreItem
  iintro ⟨#HI, ⟨⟨Hat, HtS, #HrS, HtV⟩, #HrV, ⟨%fd, Hd⟩, Hx⟩, HO⟩ Hk
  ihave #HIs := (invs_send X K c o) $$ HI
  ihave #HIr := (invs_recv X K (c + o) c) $$ HI
  iapply (Rounds.wp_send_pointsTo 𝒱₀ ER (talkRd X) (c : Thread nD τ) none (c' := ((c + o : Dev nD) : Thread nD τ)) (src := xRow (c + o)) (dst := slotM c)
      (sS := .dma (sendS o)) (sem := .dma (recvS c)) (q := fullShare) (fs := xb X c) (κ₁ := K (sendCell c o)) (κ₂ := K (recvCell (c + o) c))
      (r₁ := 0) (r₂ := 0) (d₁ := 0) (d₂ := 0) (fd := fd)
      (by rw [duties_send X c o ho]; exact Finset.mem_singleton_self _) (by rw [duties_recv]; exact Finset.mem_singleton_self _)
      () () N rfl (amount_send X c o 0) (amount_recv X (c + o) c 0) (Ow c t (o.val + 1)) (Ow_step c t o ho ht) (W := W)
      (by rw [payload_send]; exact BI.Entails.refl _)
      (by rw [payload_recv]; unfold recvPay; rw [if_neg (fun h => ho (dev_add_eq_self.mp h.symm)), ← landed X (c + o) c fd]; exact Laws.sep_emp.2)) $$ [HtS HtV Hd Hx HO]
  · isplitr; · iexact HIs
    isplitr; · iexact HIr
    isplitl [Hx]; · iexact Hx
    isplitl [Hd]; · iexact Hd
    isplitl [HO]; · iexact HO
    isplitl [HtS]; · iexact HtS
    isplitr; · iexact HrS
    isplitl [HtV]; · iexact HtV
    iexact HrV
  iintro ⟨Hc, HO⟩
  iapply Hk
  unfold FlyItem
  isplitr [HO]
  · isplitl [Hat]; · iexact Hat
    iexact Hc
  iexact HO

/-- The TRANSFER to the device at distance `o`, if its point has come. -/
theorem wp_send (o : Dev nD) (ho : o ≠ 0) (t : ℕ) {b : Prop} [Decidable b] (hb : b ↔ o.val - 3 = t)
    {n : b → Dev nD} (hn : ∀ h, n h = c + o) {sS : DmaSem sig} (hsS : sS = sendS o) {rS : b → DmaSem sig} (hrS : ∀ h, rS h = recvS c)
    {offd : Fin 3 → ℕ} (hd : offd = ![c.val, 0, 0]) {hdi : b → ∀ a, offd a + S1x256x256.size a ≤ S16x256x256.size a}
    {offs : Fin 2 → ℕ} (hs : offs = ![256 * (c + o).val, 0]) {hsi : b → ∀ a, offs a + S256x256.size a ≤ S4096x256.size a}
    {hsc : ∀ h : b, (((Memref.whole cc0_scratch1).slice (Rect.unit (s := S16x256x256) offd S1x256x256.size (hdi h)) (fun _ => rfl)).squeeze
      S256x256 squeezes_S1x256x256_S256x256 : Memref sig ((n h : Dev nD) : Thread nD τ).2.kind .vmem S256x256 .bf16).view.ref.isScScratch = false}
    {hw₁ : ∀ h : b, ((Memref.whole cc0_scratch0).slice (Rect.unit (s := S4096x256) offs S256x256.size (hsi h)) (fun _ => rfl)).view.WordExact}
    {hw₂ : ∀ h : b, (((Memref.whole cc0_scratch1).slice (Rect.unit (s := S16x256x256) offd S1x256x256.size (hdi h)) (fun _ => rfl)).squeeze
      S256x256 squeezes_S1x256x256_S256x256).view.WordExact}
    {hty : ∀ h : b, DmaTarget.Typed .vmem (.dma (rS h)) (DmaTarget.remote (p := .tc) (Dev.tc (n h) : Thread nD τ) (((Memref.whole cc0_scratch1).slice (Rect.unit (s := S16x256x256) offd S1x256x256.size (hdi h)) (fun _ => rfl)).squeeze
      S256x256 squeezes_S1x256x256_S256x256) (.dma sS) (hsc h))} (W : Waits sig Unit)
    {α : Type} {k : PUnit → Prog (TpuEff nD τ sig (Elt F) Λ₀ .tc) α} {Q : α → sProp 𝕄} :
    iprop(invs X K ∗ bigSep Finset.univ (SendSt X c t o.val) ∗ owes (c : Thread nD τ) (Ow c t o.val) W)
      ⊢ iprop(((bigSep Finset.univ (SendSt X c t (o.val + 1)) ∗ owes (c : Thread nD τ) (Ow c t (o.val + 1)) W) -∗ WP (k ⟨⟩) Q)
        -∗ WP (if h : b then
          .op (.enqueueDma ((Memref.whole cc0_scratch0).slice (Rect.unit (s := S4096x256) offs S256x256.size (hsi h)) (fun _ => rfl))
            (.remote (Dev.tc (n h)) (((Memref.whole cc0_scratch1).slice (Rect.unit (s := S16x256x256) offd S1x256x256.size (hdi h)) (fun _ => rfl)).squeeze
              S256x256 squeezes_S1x256x256_S256x256) (.dma sS) (hsc h)) (.dma (rS h)) (hw₁ h) (hw₂ h) (hty h)) (fun x => k x)
        else k ⟨⟩) Q) := by
  by_cases h : b
  · rw [dif_pos h]
    iintro ⟨#HI, HS, HO⟩ Hk
    ihave ⟨Hi, HS⟩ := (SendSt_step X c t o ho (hb.mp h)) $$ HS
    iapply (wp_transfer X K c o ho t (hb.mp h) (hn h) hsS (hrS h) hd hs W) $$ [Hi HO]
    · isplitr; · iexact HI
      isplitl [Hi]; · iexact Hi
      iexact HO
    iintro ⟨Hi, HO⟩
    iapply Hk
    isplitr [HO]
    · iapply HS; iexact Hi
    iexact HO
  · rw [dif_neg h, SendSt_skip X c t o (fun e => h (hb.mpr e)), Ow_skip c t o (fun e => h (hb.mpr e))]
    iintro ⟨-, HS, HO⟩ Hk
    iapply Hk
    isplitl [HS]; · iexact HS
    iexact HO

/-- The source that comes with a block is the one of distance 0's. -/
theorem ownRow_eq (t : Dev nD) : (iprop(if c - t = c then xPts c c (xb X c) else emp) : sProp 𝕄) = iprop(if t = 0 then xPts c c (xb X c) else emp) :=
  if_congr (sub_eq_self (G := Fin 16)) rfl rfl

/-- The WAIT for the block from `t` behind: the block, in its slot, and the cell's counter back. -/
theorem wp_block (t : Dev nD) {rS : DmaSem sig} (hrS : rS = recvS (c - t))
    {sp : Space} {s' : Shape} {e' : EltTy} {src : Memref sig .tc sp s' e'}
    {offd : Fin 3 → ℕ} (hd : offd = ![(c - t).val, 0, 0]) {hdi : ∀ a, offd a + S1x256x256.size a ≤ S16x256x256.size a}
    {hw₁ : src.view.WordExact}
    {hw₂ : (((Memref.whole cc0_scratch1).slice (Rect.unit (s := S16x256x256) offd S1x256x256.size hdi) (fun _ => rfl)).squeeze
      S256x256 squeezes_S1x256x256_S256x256).view.WordExact} (W : Waits sig Unit)
    {α : Type} {k : PUnit → Prog (TpuEff nD τ sig (Elt F) Λ₀ .tc) α} {Q : α → sProp 𝕄} :
    iprop(invs X K ∗ levAts L lv ∗ WaitItem c t ∗ owes (c : Thread nD τ) (Ow c t.val 16) W)
      ⊢ iprop(((GotItem X c t ∗ owes (c : Thread nD τ) (Ow c t.val 16) (insert (SemLoc.dma (recvS (c - t)), ()) W)) -∗ WP (k ⟨⟩) Q)
        -∗ WP (.op (.waitDma2 rS src (((Memref.whole cc0_scratch1).slice (Rect.unit (s := S16x256x256) offd S1x256x256.size hdi) (fun _ => rfl)).squeeze
              S256x256 squeezes_S1x256x256_S256x256) hw₁ hw₂) k) Q) := by
  subst hrS hd
  unfold WaitItem
  iintro ⟨#HI, #Hlev, ⟨Hat, Hc⟩, HO⟩ Hk
  ihave #HIr := (invs_recv X K c (c - t)) $$ HI
  iapply (Rounds.wp_wait_rest_token 𝒱₀ ER (talkRd X) (c : Thread nD τ) none (κ := K (recvCell c (c - t)))
      (wpE_waitDma2_eq (dst := slotM (c - t)) 𝒱₀ (c : Thread nD τ) none Set.univ) (Set.mem_univ _) () (O := Ow c t.val 16) (W := W) (R := 0) (m := 0) (T := ∅)
      ((Nat.zero_add _).trans (expect_recv X c (c - t)).symm)) $$ [Hc HO Hat]
  · isplitr; · iexact HIr
    isplitl [Hc]; · iexact Hc
    isplitl [HO]; · iexact HO
    isplitr; · iapply (mayWait_recv c t); iexact Hlev
    iexact Hat
  iintro ⟨HO, Hat, -, Hpay⟩
  ihave Hp := (Entails.of_eq (rest_recv X c (c - t))) $$ Hpay
  imod (close X (K (recvCell c (c - t))) (recvCell c (c - t))) $$ [Hat] with Hz
  · isplitr; · iexact HIr
    iexact Hat
  iapply Hk
  unfold GotItem recvPay
  isplitl [Hz Hp]
  · isplitl [Hz]; · iexact Hz
    icases Hp with ⟨Hs, Hx⟩
    isplitl [Hs]; · iexact Hs
    iapply (Entails.of_eq (ownRow_eq X c t)); iexact Hx
  iexact HO

/-- The WAIT for the source of the transfer of distance `o`, at the last point. -/
theorem wp_back (o : Dev nD) (ho : o ≠ 0) {sS : DmaSem sig} (hsS : sS = sendS o)
    {sp : Space} {s' : Shape} {e' : EltTy} {src : Memref sig .tc sp s' e'}
    {offs : Fin 2 → ℕ} {hsi : ∀ a, offs a + S256x256.size a ≤ S4096x256.size a} {hw₁ : src.view.WordExact}
    {hw₂ : ((Memref.whole cc0_scratch0).slice (Rect.unit (s := S4096x256) offs S256x256.size hsi) (fun _ => rfl)).view.WordExact}
    (W : Waits sig Unit) {α : Type} {k : PUnit → Prog (TpuEff nD τ sig (Elt F) Λ₀ .tc) α} {Q : α → sProp 𝕄} :
    iprop(invs X K ∗ bigSep Finset.univ (FinSt X c o.val) ∗ owes (c : Thread nD τ) 0 W)
      ⊢ iprop(((bigSep Finset.univ (FinSt X c (o.val + 1)) ∗ owes (c : Thread nD τ) 0 (insert (SemLoc.dma (sendS o), ()) W)) -∗ WP (k ⟨⟩) Q)
        -∗ WP (.op (.waitDma2 sS src ((Memref.whole cc0_scratch0).slice (Rect.unit (s := S4096x256) offs S256x256.size hsi) (fun _ => rfl)) hw₁ hw₂) k) Q) := by
  subst hsS
  iintro ⟨#HI, HF, HO⟩ Hk
  ihave #HIs := (invs_send X K c o) $$ HI
  ihave ⟨Hi, HF⟩ := (FinSt_step X c o ho) $$ HF
  unfold FlyItem
  icases Hi with ⟨Hat, Hc⟩
  iapply (Rounds.wp_wait_rest_token 𝒱₀ ER (talkRd X) (c : Thread nD τ) none (κ := K (sendCell c o))
      (wpE_waitDma2_eq (dst := ((Memref.whole cc0_scratch0).slice (Rect.unit (s := S4096x256) offs S256x256.size hsi) (fun _ => rfl))) 𝒱₀ (c : Thread nD τ) none Set.univ) (Set.mem_univ _) () (O := 0) (W := W) (R := 0) (m := 0) (T := ∅)
      ((Nat.zero_add _).trans (expect_send X c o ho).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hp := (Entails.of_eq (rest_send X c o ho)) $$ Hpay
  imod (close X (K (sendCell c o)) (sendCell c o)) $$ [Hat] with Hz
  · isplitr; · iexact HIs
    iexact Hat
  iapply Hk
  isplitr [HO]
  · iapply HF
    unfold BackItem sendPay
    isplitl [Hz]; · iexact Hz
    iexact Hp
  iexact HO

end Cert.KernelIdeal.Talk

end

end
-- ==== Proof.Pieces.lean ====
/-
# The buffers and their pieces

A buffer held whole is its pieces held one by one; what the barrier hands over, together with the rows of the cast operand
and the sender's own records, is what the transfers need. The loads and stores of a whole staged block are here as well.
-/
module

public import proofs.«01_k».proof.Proof.Steps
public import Idealize.ShloMosaic.Lib.VecWindow

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .f32) (c : Dev nD)

/-- A weakest precondition on device `c`. -/
local notation "WP" => wp frame (wpE (defs₀ (F := F)) 𝒱₀ (c : Thread nD τ) none) Set.univ

/-! ## A staged block, read and written whole -/

/-- A LOAD of a whole block. -/
theorem wp_read {sp : CoreSpace} {s : Shape} {e : EltTy} (M : Memref sig .tc sp s e) (q : PosShare TreeShare) (V : s.Idx → Elt F e)
    {off : Fin s.rank → ℕ} {inb : ∀ a, off a + s.size a ≤ s.size a} {hl : M.view.LoadsAt (Rect.unit off s.size inb).toLoadRect}
    {α : Type} {k : (s.Idx → Elt F e) → Prog (TpuEff nD τ sig (Elt F) Λ₀ .tc) α} {Q : α → sProp 𝕄} :
    owns (c : Thread nD τ) M q V ⊢ iprop((owns (c : Thread nD τ) M q V -∗ WP (k V) Q)
      -∗ WP (.op (.load M (Rect.unit off s.size inb).toLoadRect hl) k) Q) := by
  unfold owns
  iintro ⟨%f, %hf, H⟩ Hk
  iapply (wp_load 𝒱₀ (c : Thread nD τ) none Set.univ (m := M) (S := M.view.set) (f := f)
    (by exact Finset.map_subset_map.2 (Finset.subset_univ _))) $$ H
  iintro H
  rw [show M.view.readAt (Elt F) (Rect.unit off s.size inb).toLoadRect f = V from (View.readAt_full M.view f inb).trans hf]
  iapply Hk
  iexists f
  isplitr; · ipureintro; exact hf
  iexact H

/-- What a view reads of a buffer after a store of the whole block is what was stored. -/
theorem read_stored {sp : Space} {s : Shape} {e : EltTy} (M : Memref sig .tc sp s e) (f : M.view.ty.Contents (Elt F)) (w : s.Idx → Elt F e)
    {off : Fin s.rank → ℕ} (inb : ∀ a, off a + s.size a ≤ s.size a) :
    M.view.read (Elt F) ((M.access (Rect.unit off s.size inb)).write (Elt F) f w Finset.univ) = w := by
  have he : ∀ y, (M.access (Rect.unit off s.size inb)).emb y = M.view.emb y := fun y =>
    congrArg M.view.emb (funext fun a => Fin.ext (by
      rw [Rect.emb_apply]; show off a + 1 * (y a).val = (y a).val; have := inb a; omega))
  have h := View.read_write_univ (Val := Elt F) (v := M.access (Rect.unit off s.size inb)) f w
  refine Eq.trans (funext fun y => ?_) h
  rw [View.read_apply, View.read_apply, he]

/-- A STORE of a whole block. -/
theorem wp_write {sp : CoreSpace} {s : Shape} {e : EltTy} (M : Memref sig .tc sp s e) (V w : s.Idx → Elt F e)
    {off : Fin s.rank → ℕ} {inb : ∀ a, off a + s.size a ≤ s.size a}
    {hx : (M.access (Rect.unit off s.size inb)).Stores Finset.univ} {hm : Finset.univ = Finset.univ ∨ ∀ a, (Rect.unit off s.size inb).stride a = 1}
    {α : Type} {k : PUnit → Prog (TpuEff nD τ sig (Elt F) Λ₀ .tc) α} {Q : α → sProp 𝕄} :
    owns (c : Thread nD τ) M fullShare V ⊢ iprop((owns (c : Thread nD τ) M fullShare w -∗ WP (k ⟨⟩) Q)
      -∗ WP (.op (.store M (Rect.unit off s.size inb) w Finset.univ hx hm) k) Q) := by
  unfold owns
  iintro ⟨%f, -, H⟩ Hk
  iapply (wp_store 𝒱₀ (c : Thread nD τ) none Set.univ (m := M) (r := Rect.unit off s.size inb) (S := M.view.set) (f := f)
    (by
      intro i hi
      obtain ⟨y, -, rfl⟩ := Finset.mem_map.mp hi
      exact Finset.mem_map.mpr ⟨_, Finset.mem_univ _, rfl⟩)) $$ H
  iintro H
  iapply Hk
  iexists _
  isplitr; · ipureintro; exact read_stored M f w inb
  iexact H

/-! ## Pieces -/

/-- The cast operand held whole is its row blocks, that of distance `o` being block `c + o`. -/
theorem rows_eq (f : Vec F S4096x256 .bf16) :
    (((c : Thread nD τ).loc cc0_scratch0) ↦{fullShare} f : sProp 𝕄) = bigSep Finset.univ fun o => xPts c (c + o) f := by
  rw [Ring.pointsTo_blocks (ℓ := (c : Thread nD τ).loc cc0_scratch0) (fun r : Dev nD => xSet r) xSet_disjoint xSet_cover f,
    BI.bigSep_univ_equiv (Equiv.addLeft (G := Fin 16) c)]
  refine BI.bigSep_congr fun o _ => ?_
  show _ = ((xRow (c + o)).view.loc (c : Thread nD τ) ↦[(xRow (c + o)).view.set]{fullShare} f : sProp 𝕄)
  rw [xRow_set]
  rfl
/-- The receive buffer held whole is its slots, that of distance `o` being slot `c + o`, -/
theorem slots_eq (f : Vec F S16x256x256 .bf16) :
    (((c : Thread nD τ).loc cc0_scratch1) ↦{fullShare} f : sProp 𝕄) = bigSep Finset.univ fun s => slotPts c s f := by
  rw [Ring.pointsTo_blocks (ℓ := (c : Thread nD τ).loc cc0_scratch1) (fun r : Dev nD => slotSet r) slotSet_disjoint slotSet_cover f]
  refine BI.bigSep_congr fun o _ => ?_
  show _ = ((slotM o).view.loc (c : Thread nD τ) ↦[(slotM o).view.set]{fullShare} f : sProp 𝕄)
  rw [slotM_set]
/-- or, seen from behind, slot `c - o`. -/
theorem slots_behind (f : Vec F S16x256x256 .bf16) :
    (((c : Thread nD τ).loc cc0_scratch1) ↦{fullShare} f : sProp 𝕄) = bigSep Finset.univ fun o => slotPts c (c - o) f := by
  rw [slots_eq, BI.bigSep_univ_equiv (Equiv.subLeft (G := Fin 16) c)]
  rfl

/-- Of a family over all distances the one at 0, and the others. -/
theorem at_zero (Φ : Dev nD → sProp 𝕄) :
    bigSep Finset.univ Φ = iprop(Φ 0 ∗ bigSep Finset.univ fun o => if o = 0 then iprop(emp) else Φ o) := by
  rw [BI.bigSep_univ_at Φ 0, ← Finset.filter_ne' Finset.univ (0 : Dev nD), BI.bigSep_filter]
  congr 1

/-- A family over the other devices is one over the distances other than 0. -/
theorem others (Φ : Dev nD → sProp 𝕄) :
    bigSep (Finset.univ.erase c) Φ = bigSep Finset.univ fun o => if o = 0 then iprop(emp) else Φ (c + o) := by
  rw [← Finset.filter_ne' Finset.univ c, BI.bigSep_filter, BI.bigSep_univ_equiv (Equiv.addLeft (G := Fin 16) c)]
  refine BI.bigSep_congr fun o _ => ?_
  show (if c + o ≠ c then Φ (c + o) else BI.emp) = _
  by_cases h : o = 0
  · rw [if_pos h, if_neg (fun hn => hn (dev_add_eq_self.mpr h))]
    rfl
  · rw [if_neg h, if_pos (fun hn => h (dev_add_eq_self.mp hn))]

/-- What is in hand for a transfer before the barrier. -/
def PreSt (o : Dev nD) : sProp 𝕄 := if o = 0 then semVal (sendCell c 0) 0 else PreItem c o

theorem ready_item (o : Dev nD) : iprop(PreSt (F := F) c o ∗ (if o = 0 then iprop(emp) else barPay c (c + o))
      ∗ if o = 0 then iprop(emp) else xPts c (c + o) (xb X c))
    ⊢ SendSt X c 0 1 o := by
  rw [SendSt_first]
  unfold PreSt
  by_cases h : o = 0
  · rw [if_pos h, if_pos h, if_pos h, if_pos h]
    iintro ⟨H, -⟩
    iexact H
  · rw [if_neg h, if_neg h, if_neg h, if_neg h]
    unfold SendItem barPay
    iintro ⟨Hp, ⟨Hs, Hr⟩, Hx⟩
    isplitl [Hp]; · iexact Hp
    isplitl [Hr]; · iexact Hr
    isplitl [Hs]; · iexact Hs
    iexact Hx
/-- After the barrier, with the cast operand's other rows, every transfer can be issued. -/
theorem ready : iprop(bigSep Finset.univ (PreSt (F := F) c) ∗ (bigSep (Finset.univ.erase c) fun p => barPay c p)
      ∗ bigSep Finset.univ fun o => if o = 0 then iprop(emp) else xPts c (c + o) (xb X c))
    ⊢ bigSep Finset.univ (SendSt X c 0 1) := by
  rw [others, ← BI.bigSep_sep', ← BI.bigSep_sep']
  exact BI.bigSep_mono fun o _ => ready_item X c o

/-- What is in hand for a wait before the prologue: the credits of the blocks that others owe. -/
def PreRecv (o : Dev nD) : sProp 𝕄 :=
  iprop(atPos ER (recvCell c (c - o)) 0 ∅ 0 ∗ if o = 0 then emp else cred (tallyAt (recvCell c (c - o)) () N))

theorem waits : iprop(bigSep Finset.univ (PreRecv (F := F) c) ∗ cred (tallyAt (recvCell c c) () N)) ⊢ bigSep Finset.univ (RecvSt X c 0) := by
  have h0 : c - 0 = c := sub_zero (G := Fin 16) c
  rw [at_zero, at_zero (RecvSt X c 0)]
  have e : (bigSep Finset.univ fun o => if o = 0 then iprop(emp) else PreRecv (F := F) c o)
      = bigSep Finset.univ fun o => if o = 0 then iprop(emp) else RecvSt X c 0 o := by
    refine BI.bigSep_congr fun o _ => ?_
    by_cases h : o = 0
    · rw [if_pos h, if_pos h]
    · rw [if_neg h, if_neg h]
      unfold RecvSt PreRecv WaitItem
      rw [if_neg h, if_neg (Nat.not_lt_zero _)]
  rw [e]
  unfold RecvSt PreRecv WaitItem
  rw [if_pos rfl, if_neg (Nat.not_lt_zero _), h0]
  iintro ⟨⟨⟨Ha, -⟩, Hr⟩, Hc⟩
  isplitr [Hr]
  · isplitl [Ha]; · iexact Ha
    iexact Hc
  iexact Hr

end Cert.KernelIdeal.Talk

end

end
-- ==== Proof.Facts.lean ====
/-
# The conditions of a grid point

Which of the body's conditional blocks run at which grid point.
-/
module

public import proofs.«01_k».proof.Proof.Pieces

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (i : grid0.Coords)

theorem cond1_iff : k0_cond1 i = 1#1 ↔ (i 0).val = 0 := by revert i; decide +kernel
theorem cond2_iff : k0_cond2 i = 1#1 ↔ 1 - 3 = (i 0).val := by revert i; decide +kernel
theorem cond3_iff : k0_cond3 i = 1#1 ↔ 2 - 3 = (i 0).val := by revert i; decide +kernel
theorem cond4_iff : k0_cond4 i = 1#1 ↔ 3 - 3 = (i 0).val := by revert i; decide +kernel
theorem cond5_iff : k0_cond5 i = 1#1 ↔ 4 - 3 = (i 0).val := by revert i; decide +kernel
theorem cond6_iff : k0_cond6 i = 1#1 ↔ 5 - 3 = (i 0).val := by revert i; decide +kernel
theorem cond7_iff : k0_cond7 i = 1#1 ↔ 6 - 3 = (i 0).val := by revert i; decide +kernel
theorem cond8_iff : k0_cond8 i = 1#1 ↔ 7 - 3 = (i 0).val := by revert i; decide +kernel
theorem cond9_iff : k0_cond9 i = 1#1 ↔ 8 - 3 = (i 0).val := by revert i; decide +kernel
theorem cond10_iff : k0_cond10 i = 1#1 ↔ 9 - 3 = (i 0).val := by revert i; decide +kernel
theorem cond11_iff : k0_cond11 i = 1#1 ↔ 10 - 3 = (i 0).val := by revert i; decide +kernel
theorem cond12_iff : k0_cond12 i = 1#1 ↔ 11 - 3 = (i 0).val := by revert i; decide +kernel
theorem cond13_iff : k0_cond13 i = 1#1 ↔ 12 - 3 = (i 0).val := by revert i; decide +kernel
theorem cond14_iff : k0_cond14 i = 1#1 ↔ 13 - 3 = (i 0).val := by revert i; decide +kernel
theorem cond15_iff : k0_cond15 i = 1#1 ↔ 14 - 3 = (i 0).val := by revert i; decide +kernel
theorem cond16_iff : k0_cond16 i = 1#1 ↔ 15 - 3 = (i 0).val := by revert i; decide +kernel
theorem cond17_iff : k0_cond17 i = 1#1 ↔ (i 0).val = 0 := by revert i; decide +kernel
theorem cond18_iff : k0_cond18 i = 1#1 ↔ 0 < (i 0).val ∧ (i 0).val < 15 := by revert i; decide +kernel
theorem cond19_iff : k0_cond19 i = 1#1 ↔ (i 0).val = 15 := by revert i; decide +kernel

/-- The distance that a grid point's block comes over. -/
def dist : Dev nD := ⟨(i 0).val, (i 0).isLt⟩
theorem dist_val : (dist i).val = (i 0).val := rfl
theorem off49_eq (c : Dev nD) : k0_off49 i c = ![(c - dist i).val] := by rw [k0_off49_eq, dev_sub_val, dist_val]
theorem off50_eq (c : Dev nD) : k0_off50 i c = ![(c - dist i).val, 0, 0] := by rw [k0_off50_eq, dev_sub_val, dist_val]
theorem off51_eq (c : Dev nD) : k0_off51 i c = ![(c - dist i).val, 0, 0] := by rw [k0_off51_eq, dev_sub_val, dist_val]

/-- A device at a computed number. -/
theorem at_dev {v : ℕ} {hv : v < nD} {c o : Dev nD} (h : v = (c.val + o.val) % 16) : (⟨v, hv⟩ : Dev nD) = c + o :=
  Fin.ext (h.trans (dev_add_val c o).symm)
/-- The barrier's semaphore. -/
theorem bar_at {h : (sig.barrierSem 0).isSome} : (SemArray.scalar (sig.barrier 0 h) : Sems sig S_).sem = barS := rfl

/-- The receive semaphore and the send semaphore at a computed offset. -/
theorem recv_at {off : Fin 1 → ℕ} {s : Dev nD} (h : off = ![s.val]) {hi : ∀ a, off a + S1.size a ≤ S16.size a} :
    ((cc0_scratch3.slice (Rect.unit (s := S16) off S1.size hi)).squeeze S_ squeezes_S1_S_).sem = recvS s := by
  subst h; exact recvS_eq s
theorem send_at {off : Fin 1 → ℕ} {o : Dev nD} (h : off = ![o.val]) {hi : ∀ a, off a + S1.size a ≤ S16.size a} :
    ((cc0_scratch2.slice (Rect.unit (s := S16) off S1.size hi)).squeeze S_ squeezes_S1_S_).sem = sendS o := by
  subst h; exact sendS_eq o

end Cert.KernelIdeal.Talk

end

end
-- ==== Proof.Opening.lean ====
/-
# The prologue and the transfers

The first point's prologue: a barrier unit to every other device, the barrier wait, the cast of the operand and the local
copy of the own row block; and, at every point, the transfers whose point it is.
-/
module

public import proofs.«01_k».proof.Proof.Facts

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .f32) (K : GSem nD τ sig → ℕ) (c : Dev nD)

/-- A weakest precondition on device `c`. -/
local notation "WP" => wp frame (wpE (defs₀ (F := F)) 𝒱₀ (c : Thread nD τ) none) Set.univ

/-- What a device has before the prologue, the invariants apart. -/
def Before : sProp 𝕄 :=
  iprop(bigSep Finset.univ (BarSt (F := F) c 1) ∗ cred (tallyAt (barCell c) () 15) ∗ atPos ER (barCell c) 0 ∅ 0
    ∗ bigSep Finset.univ (PreSt (F := F) c) ∗ bigSep Finset.univ (PreRecv (F := F) c)
    ∗ dutyTok ER (recvCell c c) 0 0 ∗ reached ER (recvCell c c) 0 ∗ slotAny c c
    ∗ ∃ f, ((c : Thread nD τ).loc cc0_scratch0) ↦{fullShare} f)
/-- What a device has at point `t`, when the transfers of distance below `k` have been looked at. -/
def During (t k : ℕ) : sProp 𝕄 :=
  iprop(bigSep Finset.univ (SendSt X c t k) ∗ bigSep Finset.univ (RecvSt X c t) ∗ semVal (barCell c) 0)
def AtPoint (t : ℕ) : sProp 𝕄 := if t = 0 then Before c else During X c t 1
def OwesAt (t : ℕ) : CellTallies nD τ sig Unit := if t = 0 then O₀ c else Ow c t 1

variable (i : grid0.Coords) (arg1 : Memref sig .tc .smem S1 .i32) (h1 : arg1.IsWhole)
  (arg2 : Memref sig .tc .vmem S4096x256 .f32) (h2 : arg2.IsWhole) (arg3 : Memref sig .tc .vmem S256x8192 .f32) (h3 : arg3.IsWhole)
  (arg4 : Memref sig .tc .vmem S256x8192 .f32) (h4 : arg4.IsWhole)

set_option maxHeartbeats 800000 in
/-- The first part of the body: the prologue, at the first point, and the transfers of the distances 1 to 7. -/
theorem wp_part6 (W : Waits sig Unit) {Q : (Σ' (_ : BitVec 32) (_ : Dev nD) (_ : BitVec 32), BitVec 32) → sProp 𝕄} :
    iprop(invs X K ∗ levAts L lv ∗ owns (c : Thread nD τ) arg2 fullShare (X c) ∗ AtPoint X c (i 0).val
        ∗ owes (c : Thread nD τ) (OwesAt c (i 0).val) W)
      ⊢ iprop((∀ a0 : BitVec 32, ∀ v2 : BitVec 32, ∀ v5 : BitVec 32, ∀ W' : Waits sig Unit,
          (owns (c : Thread nD τ) arg2 fullShare (X c) ∗ During X c (i 0).val 8 ∗ owes (c : Thread nD τ) (Ow c (i 0).val 8) W')
          -∗ Q ⟨a0, c, v2, v5⟩)
        -∗ WP (k0_part6 i arg1 h1 arg2 h2 arg3 h3 arg4 h4 (Memref.whole cc0_scratch0) (Memref.isWhole_whole _)
            (Memref.whole cc0_scratch1) (Memref.isWhole_whole _) cc0_scratch2 cc0_scratch3) Q) := by
  rw [k0_part6_eq_skeleton]
  unfold k0_part6_skel
  simp -zeta only [semSignalWord, semWaitWord, Prog.lift, Prog.bind_op, Prog.bind_ret, Prog.pure_eq_ret]
  extract_lets -underBinder arg0
  rw [wp_deviceId]
  extract_lets -underBinder v0 v1 v2 v3 v4 v5 jp
  have key : ∀ W' : Waits sig Unit, iprop(invs X K ∗ owns (c : Thread nD τ) arg2 fullShare (X c) ∗ During X c (i 0).val 1
        ∗ owes (c : Thread nD τ) (Ow c (i 0).val 1) W')
      ⊢ iprop((∀ a0 : BitVec 32, ∀ v2 : BitVec 32, ∀ v5 : BitVec 32, ∀ W' : Waits sig Unit,
          (owns (c : Thread nD τ) arg2 fullShare (X c) ∗ During X c (i 0).val 8 ∗ owes (c : Thread nD τ) (Ow c (i 0).val 8) W')
          -∗ Q ⟨a0, c, v2, v5⟩) -∗ WP (jp ⟨⟩) Q) := by
    intro W
    unfold During
    iintro ⟨#HI, Hx, ⟨HS, HD⟩, HO⟩ Hk

    iapply (wp_send X K c ⟨1, by decide⟩ (by decide) (i 0).val (cond2_iff i) (fun _ => at_dev (k0_dev16_eq c)) (sendS_eq ⟨1, by decide⟩)
      (fun h => recv_at (k0_off4_eq c)) (k0_off5_eq c) (k0_off6_eq c) W) $$ [HS HO]
    · isplitr; · iexact HI
      isplitl [HS]; · iexact HS
      iexact HO
    iintro ⟨HS, HO⟩
    iapply (wp_send X K c ⟨2, by decide⟩ (by decide) (i 0).val (cond3_iff i) (fun _ => at_dev (k0_dev17_eq c)) (sendS_eq ⟨2, by decide⟩)
      (fun h => recv_at (k0_off7_eq c)) (k0_off8_eq c) (k0_off9_eq c) W) $$ [HS HO]
    · isplitr; · iexact HI
      isplitl [HS]; · iexact HS
      iexact HO
    iintro ⟨HS, HO⟩
    iapply (wp_send X K c ⟨3, by decide⟩ (by decide) (i 0).val (cond4_iff i) (fun _ => at_dev (k0_dev18_eq c)) (sendS_eq ⟨3, by decide⟩)
      (fun h => recv_at (k0_off10_eq c)) (k0_off11_eq c) (k0_off12_eq c) W) $$ [HS HO]
    · isplitr; · iexact HI
      isplitl [HS]; · iexact HS
      iexact HO
    iintro ⟨HS, HO⟩
    iapply (wp_send X K c ⟨4, by decide⟩ (by decide) (i 0).val (cond5_iff i) (fun _ => at_dev (k0_dev19_eq c)) (sendS_eq ⟨4, by decide⟩)
      (fun h => recv_at (k0_off13_eq c)) (k0_off14_eq c) (k0_off15_eq c) W) $$ [HS HO]
    · isplitr; · iexact HI
      isplitl [HS]; · iexact HS
      iexact HO
    iintro ⟨HS, HO⟩
    iapply (wp_send X K c ⟨5, by decide⟩ (by decide) (i 0).val (cond6_iff i) (fun _ => at_dev (k0_dev20_eq c)) (sendS_eq ⟨5, by decide⟩)
      (fun h => recv_at (k0_off16_eq c)) (k0_off17_eq c) (k0_off18_eq c) W) $$ [HS HO]
    · isplitr; · iexact HI
      isplitl [HS]; · iexact HS
      iexact HO
    iintro ⟨HS, HO⟩
    iapply (wp_send X K c ⟨6, by decide⟩ (by decide) (i 0).val (cond7_iff i) (fun _ => at_dev (k0_dev21_eq c)) (sendS_eq ⟨6, by decide⟩)
      (fun h => recv_at (k0_off19_eq c)) (k0_off20_eq c) (k0_off21_eq c) W) $$ [HS HO]
    · isplitr; · iexact HI
      isplitl [HS]; · iexact HS
      iexact HO
    iintro ⟨HS, HO⟩
    iapply (wp_send X K c ⟨7, by decide⟩ (by decide) (i 0).val (cond8_iff i) (fun _ => at_dev (k0_dev22_eq c)) (sendS_eq ⟨7, by decide⟩)
      (fun h => recv_at (k0_off22_eq c)) (k0_off23_eq c) (k0_off24_eq c) W) $$ [HS HO]
    · isplitr; · iexact HI
      isplitl [HS]; · iexact HS
      iexact HO
    iintro ⟨HS, HO⟩
    rw [wp_ret]
    imodintro
    iapply Hk
    isplitl [Hx]; · iexact Hx
    isplitr [HO]
    · isplitl [HS]; · iexact HS
      iexact HD
    iexact HO
  clear_value jp
  by_cases h : (i 0).val = 0
  · have hA : AtPoint X c (i 0).val = Before c := if_pos h
    have hO : OwesAt c (i 0).val = BarOw c 1 := if_pos h
    rw [hA, hO, h, dif_pos ((cond1_iff i).mpr h)]
    rw [h] at key
    simp only [k0_part1_eq_skeleton, k0_part2_eq_skeleton]
    unfold k0_part1_skel k0_part2_skel
    simp only [semSignalWord, semWaitWord, Prog.lift, Prog.bind_op, Prog.bind_ret, Prog.pure_eq_ret]
    unfold Before
    iintro ⟨#HI, #Hlev, Hx, ⟨HB, Hcb, Hab, HP, HR, Ht, Hr, Hs, ⟨%f, Hw⟩⟩, HO⟩ Hk
    iapply (wp_unit X K c ⟨1, by decide⟩ (by decide) (at_dev (k0_dev1_eq c)) bar_at W) $$ [HB HO]
    · isplitr; · iexact HI
      isplitl [HB]; · iexact HB
      iexact HO
    iintro ⟨HB, HO⟩
    iapply (wp_unit X K c ⟨2, by decide⟩ (by decide) (at_dev (k0_dev2_eq c)) bar_at W) $$ [HB HO]
    · isplitr; · iexact HI
      isplitl [HB]; · iexact HB
      iexact HO
    iintro ⟨HB, HO⟩
    iapply (wp_unit X K c ⟨3, by decide⟩ (by decide) (at_dev (k0_dev3_eq c)) bar_at W) $$ [HB HO]
    · isplitr; · iexact HI
      isplitl [HB]; · iexact HB
      iexact HO
    iintro ⟨HB, HO⟩
    iapply (wp_unit X K c ⟨4, by decide⟩ (by decide) (at_dev (k0_dev4_eq c)) bar_at W) $$ [HB HO]
    · isplitr; · iexact HI
      isplitl [HB]; · iexact HB
      iexact HO
    iintro ⟨HB, HO⟩
    iapply (wp_unit X K c ⟨5, by decide⟩ (by decide) (at_dev (k0_dev5_eq c)) bar_at W) $$ [HB HO]
    · isplitr; · iexact HI
      isplitl [HB]; · iexact HB
      iexact HO
    iintro ⟨HB, HO⟩
    iapply (wp_unit X K c ⟨6, by decide⟩ (by decide) (at_dev (k0_dev6_eq c)) bar_at W) $$ [HB HO]
    · isplitr; · iexact HI
      isplitl [HB]; · iexact HB
      iexact HO
    iintro ⟨HB, HO⟩
    iapply (wp_unit X K c ⟨7, by decide⟩ (by decide) (at_dev (k0_dev7_eq c)) bar_at W) $$ [HB HO]
    · isplitr; · iexact HI
      isplitl [HB]; · iexact HB
      iexact HO
    iintro ⟨HB, HO⟩
    iapply (wp_unit X K c ⟨8, by decide⟩ (by decide) (at_dev (k0_dev8_eq c)) bar_at W) $$ [HB HO]
    · isplitr; · iexact HI
      isplitl [HB]; · iexact HB
      iexact HO
    iintro ⟨HB, HO⟩
    iapply (wp_unit X K c ⟨9, by decide⟩ (by decide) (at_dev (k0_dev9_eq c)) bar_at W) $$ [HB HO]
    · isplitr; · iexact HI
      isplitl [HB]; · iexact HB
      iexact HO
    iintro ⟨HB, HO⟩
    iapply (wp_unit X K c ⟨10, by decide⟩ (by decide) (at_dev (k0_dev10_eq c)) bar_at W) $$ [HB HO]
    · isplitr; · iexact HI
      isplitl [HB]; · iexact HB
      iexact HO
    iintro ⟨HB, HO⟩
    iapply (wp_unit X K c ⟨11, by decide⟩ (by decide) (at_dev (k0_dev11_eq c)) bar_at W) $$ [HB HO]
    · isplitr; · iexact HI
      isplitl [HB]; · iexact HB
      iexact HO
    iintro ⟨HB, HO⟩
    iapply (wp_unit X K c ⟨12, by decide⟩ (by decide) (at_dev (k0_dev12_eq c)) bar_at W) $$ [HB HO]
    · isplitr; · iexact HI
      isplitl [HB]; · iexact HB
      iexact HO
    iintro ⟨HB, HO⟩
    iapply (wp_unit X K c ⟨13, by decide⟩ (by decide) (at_dev (k0_dev13_eq c)) bar_at W) $$ [HB HO]
    · isplitr; · iexact HI
      isplitl [HB]; · iexact HB
      iexact HO
    iintro ⟨HB, HO⟩
    iapply (wp_unit X K c ⟨14, by decide⟩ (by decide) (at_dev (k0_dev14_eq c)) bar_at W) $$ [HB HO]
    · isplitr; · iexact HI
      isplitl [HB]; · iexact HB
      iexact HO
    iintro ⟨HB, HO⟩
    iapply (wp_unit X K c ⟨15, by decide⟩ (by decide) (at_dev (k0_dev15_eq c)) bar_at W) $$ [HB HO]
    · isplitr; · iexact HI
      isplitl [HB]; · iexact HB
      iexact HO
    iintro ⟨HB, HO⟩
    ihave HO := (Entails.of_eq (congrArg (fun O => owes (c : Thread nD τ) O W) (BarOw_last c))) $$ HO
    iapply (wp_barrier X K c bar_at W) $$ [Hcb Hab HO]
    · isplitr; · iexact HI
      isplitr; · iexact Hlev
      isplitl [Hcb]; · iexact Hcb
      isplitl [Hab]; · iexact Hab
      iexact HO
    iintro ⟨Hb0, Hpay, HO⟩
    iapply (wp_read c arg2 fullShare (X c)) $$ Hx
    iintro Hx
    ihave Hw := (Entails.of_eq (owns_whole (c : Thread nD τ) cc0_scratch0 fullShare f).symm) $$ Hw
    iapply (wp_read c (Memref.whole cc0_scratch0) fullShare f) $$ Hw
    iintro Hw
    iapply (wp_write c (Memref.whole cc0_scratch0) f (xb X c)) $$ Hw
    iintro Hw
    ihave Hw := (Entails.of_eq (owns_whole (c : Thread nD τ) cc0_scratch0 fullShare (xb X c))) $$ Hw
    ihave Hw := (Entails.of_eq ((rows_eq c (xb X c)).trans (at_zero fun o => xPts c (c + o) (xb X c)))) $$ Hw
    icases Hw with ⟨Hw0, Hw⟩
    ihave Hw0 := (Entails.of_eq (congrArg (fun r => xPts c r (xb X c)) (add_zero (M := Fin 16) c))) $$ Hw0
    iapply (wp_own X K c (recv_at (k0_off1_eq c)) (k0_off2_eq c) (k0_off3_eq c)) $$ [Hw0 Hs Ht Hr]
    · isplitr; · iexact HI
      isplitl [Hw0]; · iexact Hw0
      isplitl [Hs]; · iexact Hs
      isplitl [Ht]; · iexact Ht
      iexact Hr
    iintro Hcr
    iapply (key _) $$ [Hx HP Hpay Hw HR Hcr Hb0 HO]
    · isplitr; · iexact HI
      isplitl [Hx]; · iexact Hx
      isplitr [HO]
      · unfold During
        isplitl [HP Hpay Hw]
        · iapply (ready X c)
          isplitl [HP]; · iexact HP
          isplitl [Hpay]; · iexact Hpay
          iexact Hw
        isplitl [HR Hcr]
        · iapply (waits X c)
          isplitl [HR]; · iexact HR
          iexact Hcr
        iexact Hb0
      iexact HO
    iexact Hk
  · rw [dif_neg (fun hc => h ((cond1_iff i).mp hc))]
    have hA : AtPoint X c (i 0).val = During X c (i 0).val 1 := if_neg h
    have hO : OwesAt c (i 0).val = Ow c (i 0).val 1 := if_neg h
    rw [hA, hO]
    iintro ⟨#HI, -, Hx, HA, HO⟩ Hk
    iapply (key W) $$ [Hx HA HO]
    · isplitr; · iexact HI
      isplitl [Hx]; · iexact Hx
      isplitl [HA]; · iexact HA
      iexact HO
    iexact Hk

/-- The second part of the body: the transfers of the distances 8 to 15. -/
theorem wp_part7 (W : Waits sig Unit) (a0 v2 : BitVec 32) {Q : PUnit → sProp 𝕄} :
    iprop(invs X K ∗ bigSep Finset.univ (SendSt X c (i 0).val 8) ∗ owes (c : Thread nD τ) (Ow c (i 0).val 8) W)
      ⊢ iprop(((bigSep Finset.univ (SendSt X c (i 0).val 16) ∗ owes (c : Thread nD τ) (Ow c (i 0).val 16) W) -∗ Q ⟨⟩)
        -∗ WP (k0_part7 i arg1 h1 arg2 h2 arg3 h3 arg4 h4 (Memref.whole cc0_scratch0) (Memref.isWhole_whole _)
            (Memref.whole cc0_scratch1) (Memref.isWhole_whole _) cc0_scratch2 cc0_scratch3 a0 c v2) Q) := by
  rw [k0_part7_eq_skeleton]
  unfold k0_part7_skel
  simp -zeta only [Prog.lift, Prog.bind_op, Prog.bind_ret, Prog.pure_eq_ret]
  iintro ⟨#HI, HS, HO⟩ Hk
  iapply (wp_send X K c ⟨8, by decide⟩ (by decide) (i 0).val (cond9_iff i) (fun _ => at_dev (k0_dev23_eq c)) (sendS_eq ⟨8, by decide⟩)
    (fun h => recv_at (k0_off25_eq c)) (k0_off26_eq c) (k0_off27_eq c) W) $$ [HS HO]
  · isplitr; · iexact HI
    isplitl [HS]; · iexact HS
    iexact HO
  iintro ⟨HS, HO⟩
  iapply (wp_send X K c ⟨9, by decide⟩ (by decide) (i 0).val (cond10_iff i) (fun _ => at_dev (k0_dev24_eq c)) (sendS_eq ⟨9, by decide⟩)
    (fun h => recv_at (k0_off28_eq c)) (k0_off29_eq c) (k0_off30_eq c) W) $$ [HS HO]
  · isplitr; · iexact HI
    isplitl [HS]; · iexact HS
    iexact HO
  iintro ⟨HS, HO⟩
  iapply (wp_send X K c ⟨10, by decide⟩ (by decide) (i 0).val (cond11_iff i) (fun _ => at_dev (k0_dev25_eq c)) (sendS_eq ⟨10, by decide⟩)
    (fun h => recv_at (k0_off31_eq c)) (k0_off32_eq c) (k0_off33_eq c) W) $$ [HS HO]
  · isplitr; · iexact HI
    isplitl [HS]; · iexact HS
    iexact HO
  iintro ⟨HS, HO⟩
  iapply (wp_send X K c ⟨11, by decide⟩ (by decide) (i 0).val (cond12_iff i) (fun _ => at_dev (k0_dev26_eq c)) (sendS_eq ⟨11, by decide⟩)
    (fun h => recv_at (k0_off34_eq c)) (k0_off35_eq c) (k0_off36_eq c) W) $$ [HS HO]
  · isplitr; · iexact HI
    isplitl [HS]; · iexact HS
    iexact HO
  iintro ⟨HS, HO⟩
  iapply (wp_send X K c ⟨12, by decide⟩ (by decide) (i 0).val (cond13_iff i) (fun _ => at_dev (k0_dev27_eq c)) (sendS_eq ⟨12, by decide⟩)
    (fun h => recv_at (k0_off37_eq c)) (k0_off38_eq c) (k0_off39_eq c) W) $$ [HS HO]
  · isplitr; · iexact HI
    isplitl [HS]; · iexact HS
    iexact HO
  iintro ⟨HS, HO⟩
  iapply (wp_send X K c ⟨13, by decide⟩ (by decide) (i 0).val (cond14_iff i) (fun _ => at_dev (k0_dev28_eq c)) (sendS_eq ⟨13, by decide⟩)
    (fun h => recv_at (k0_off40_eq c)) (k0_off41_eq c) (k0_off42_eq c) W) $$ [HS HO]
  · isplitr; · iexact HI
    isplitl [HS]; · iexact HS
    iexact HO
  iintro ⟨HS, HO⟩
  iapply (wp_send X K c ⟨14, by decide⟩ (by decide) (i 0).val (cond15_iff i) (fun _ => at_dev (k0_dev29_eq c)) (sendS_eq ⟨14, by decide⟩)
    (fun h => recv_at (k0_off43_eq c)) (k0_off44_eq c) (k0_off45_eq c) W) $$ [HS HO]
  · isplitr; · iexact HI
    isplitl [HS]; · iexact HS
    iexact HO
  iintro ⟨HS, HO⟩
  iapply (wp_send X K c ⟨15, by decide⟩ (by decide) (i 0).val (cond16_iff i) (fun _ => at_dev (k0_dev30_eq c)) (sendS_eq ⟨15, by decide⟩)
    (fun h => recv_at (k0_off46_eq c)) (k0_off47_eq c) (k0_off48_eq c) W) $$ [HS HO]
  · isplitr; · iexact HI
    isplitl [HS]; · iexact HS
    iexact HO
  iintro ⟨HS, HO⟩
  rw [wp_ret]
  imodintro
  iapply Hk
  isplitl [HS]; · iexact HS
  iexact HO

end Cert.KernelIdeal.Talk

end

end
-- ==== Proof.Body.lean ====
/-
# The body at one grid point

The whole body, at a symbolic device and grid point: the prologue and the transfers, the wait for the block of the point, the
product of the block with the point's rows of the second operand, added to what the result block holds, and at the last
point the activation and the waits for the transfers' sources.
-/
module

public import proofs.«01_k».proof.Proof.Opening

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S4096x256 .f32) (K : GSem nD τ sig → ℕ) (c : Dev nD)

/-- A weakest precondition on device `c`. -/
local notation "WP" => wp frame (wpE (defs₀ (F := F)) 𝒱₀ (c : Thread nD τ) none) Set.univ

theorem wp_then {b : Prop} [Decidable b] (h : b) {α : Type} {p : b → Prog (TpuEff nD τ sig (Elt F) Λ₀ .tc) α}
    {q : ¬b → Prog (TpuEff nD τ sig (Elt F) Λ₀ .tc) α} {Q : α → sProp 𝕄} : WP (p h) Q ⊢ WP (dite b p q) Q :=
  Entails.of_eq (congrArg (fun r => WP r Q) (dif_pos h).symm)
theorem wp_else {b : Prop} [Decidable b] (h : ¬b) {α : Type} {p : b → Prog (TpuEff nD τ sig (Elt F) Λ₀ .tc) α}
    {q : ¬b → Prog (TpuEff nD τ sig (Elt F) Λ₀ .tc) α} {Q : α → sProp 𝕄} : WP (q h) Q ⊢ WP (dite b p q) Q :=
  Entails.of_eq (congrArg (fun r => WP r Q) (dif_neg h).symm)

theorem RecvSt_point (i : grid0.Coords) : bigSep Finset.univ (RecvSt X c (i 0).val)
    ⊢ iprop(WaitItem c (dist i) ∗ (GotItem X c (dist i) -∗ bigSep Finset.univ (RecvSt X c ((i 0).val + 1)))) :=
  RecvSt_step X c (dist i)

/-- The wait of a point for its block. -/
theorem wp_block_at (t : Dev nD) (n : ℕ) (hn : t.val = n) {rS : DmaSem sig} (hrS : rS = recvS (c - t))
    {sp : Space} {s' : Shape} {e' : EltTy} {src : Memref sig .tc sp s' e'}
    {offd : Fin 3 → ℕ} (hd : offd = ![(c - t).val, 0, 0]) {hdi : ∀ a, offd a + S1x256x256.size a ≤ S16x256x256.size a}
    {hw₁ : src.view.WordExact}
    {hw₂ : (((Memref.whole cc0_scratch1).slice (Rect.unit (s := S16x256x256) offd S1x256x256.size hdi) (fun _ => rfl)).squeeze
      S256x256 squeezes_S1x256x256_S256x256).view.WordExact} (W : Waits sig Unit)
    {α : Type} {k : PUnit → Prog (TpuEff nD τ sig (Elt F) Λ₀ .tc) α} {Q : α → sProp 𝕄} :
    iprop(invs X K ∗ levAts L lv ∗ WaitItem c (t) ∗ owes (c : Thread nD τ) (Ow c n 16) W)
      ⊢ iprop((∀ W' : Waits sig Unit, (GotItem X c (t) ∗ owes (c : Thread nD τ) (Ow c n 16) W') -∗ WP (k ⟨⟩) Q)
        -∗ WP (.op (.waitDma2 rS src (((Memref.whole cc0_scratch1).slice (Rect.unit (s := S16x256x256) offd S1x256x256.size hdi) (fun _ => rfl)).squeeze
              S256x256 squeezes_S1x256x256_S256x256) hw₁ hw₂) k) Q) := by
  subst hn
  iintro H Hk
  iapply (wp_block X K c (t) hrS hd W) $$ H
  iapply Hk

/-- Slot `s` of the receive buffer, read. -/
def readSlot (s : Dev nD) (f : Vec F S16x256x256 .bf16) : Vec F S1x256x256 .bf16 :=
  (Memref.whole cc0_scratch1).view.readAt (Elt F) (Rect.unit (s := S16x256x256) ![s.val, 0, 0] S1x256x256.size (slot_inb s)).toLoadRect f

/-- A LOAD of a slot. -/
theorem wp_slot (s : Dev nD) (f : Vec F S16x256x256 .bf16) {off : Fin 3 → ℕ} (h : off = ![s.val, 0, 0])
    {hi : ∀ a, off a + S1x256x256.size a ≤ S16x256x256.size a}
    {hl : (Memref.whole cc0_scratch1).view.LoadsAt (Rect.unit (s := S16x256x256) off S1x256x256.size hi).toLoadRect}
    {α : Type} {k : Vec F S1x256x256 .bf16 → Prog (TpuEff nD τ sig (Elt F) Λ₀ .tc) α} {Q : α → sProp 𝕄} :
    slotPts c s f ⊢ iprop((slotPts c s f -∗ WP (k (readSlot s f)) Q)
      -∗ WP (.op (.load (Memref.whole cc0_scratch1) (Rect.unit (s := S16x256x256) off S1x256x256.size hi).toLoadRect hl) k) Q) := by
  subst h
  exact wp_load 𝒱₀ (c : Thread nD τ) none Set.univ (m := Memref.whole cc0_scratch1) (S := (slotM s).view.set) (f := f)
    (by rw [slotM_set]; intro i hi; obtain ⟨y, hy, rfl⟩ := Finset.mem_map.mp hi; exact hy)

/-- What the result block holds after point `t`, from the point's rows `w` of the second operand and what it held. -/
def step (t : Dev nD) (w prev : Vec F S256x8192 .f32) : Vec F S256x8192 .f32 :=
  if t.val = 0 then k0_pay1 (readSlot (c - t) (rb X c)) w
  else if t.val = 15 then k0_pay3 (k0_pay1 (readSlot (c - t) (rb X c)) w) prev
  else k0_pay2 (readSlot (c - t) (rb X c)) w prev

/-- What a device has after point `t`. -/
def Done : sProp 𝕄 :=
  iprop(bigSep Finset.univ (FinSt X c 16) ∗ bigSep Finset.univ (RecvSt X c 16) ∗ semVal (barCell c) 0)
def AfterPoint (t : ℕ) : sProp 𝕄 := if t = 15 then Done X c else During X c (t + 1) 1

/-- The waits for the sources, `k` of them (counting distance 0) being over. -/
def Ending (k : ℕ) : sProp 𝕄 :=
  iprop(invs X K ∗ bigSep Finset.univ (FinSt X c k) ∗ ∃ W : Waits sig Unit, owes (c : Thread nD τ) 0 W)

theorem Ending_intro (t : ℕ) (h : t = 15) (W : Waits sig Unit) :
    iprop(invs X K ∗ bigSep Finset.univ (SendSt X c t 16) ∗ owes (c : Thread nD τ) (Ow c t 16) W) ⊢ Ending X K c 1 := by
  subst h
  rw [SendSt_last, Ow_last]
  unfold Ending
  iintro ⟨#HI, HF, HO⟩
  isplitr; · iexact HI
  isplitl [HF]; · iexact HF
  iexists W; iexact HO

/-- One of those waits. -/
theorem wp_ending (o : Dev nD) (ho : o ≠ 0) {sS : DmaSem sig} (hsS : sS = sendS o)
    {sp : Space} {s' : Shape} {e' : EltTy} {src : Memref sig .tc sp s' e'}
    {offs : Fin 2 → ℕ} {hsi : ∀ a, offs a + S256x256.size a ≤ S4096x256.size a} {hw₁ : src.view.WordExact}
    {hw₂ : ((Memref.whole cc0_scratch0).slice (Rect.unit (s := S4096x256) offs S256x256.size hsi) (fun _ => rfl)).view.WordExact}
    {α : Type} {k : PUnit → Prog (TpuEff nD τ sig (Elt F) Λ₀ .tc) α} {Q : α → sProp 𝕄} :
    Ending X K c o.val ⊢ iprop((Ending X K c (o.val + 1) -∗ WP (k ⟨⟩) Q)
      -∗ WP (.op (.waitDma2 sS src ((Memref.whole cc0_scratch0).slice (Rect.unit (s := S4096x256) offs S256x256.size hsi) (fun _ => rfl)) hw₁ hw₂) k) Q) := by
  unfold Ending
  iintro ⟨#HI, HF, ⟨%W, HO⟩⟩ Hk
  iapply (wp_back X K c o ho hsS W) $$ [HF HO]
  · isplitr; · iexact HI
    isplitl [HF]; · iexact HF
    iexact HO
  iintro ⟨HF, HO⟩
  iapply Hk
  isplitr; · iexact HI
  isplitl [HF]; · iexact HF
  iexists _; iexact HO

variable (i : grid0.Coords) (arg1 : Memref sig .tc .smem S1 .i32) (h1 : arg1.IsWhole)
  (arg2 : Memref sig .tc .vmem S4096x256 .f32) (h2 : arg2.IsWhole) (arg3 : Memref sig .tc .vmem S256x8192 .f32) (h3 : arg3.IsWhole)
  (arg4 : Memref sig .tc .vmem S256x8192 .f32) (h4 : arg4.IsWhole)

/-- The last product added, the activation, and the first three of the waits. -/
theorem wp_part3 (v u : Vec F S256x8192 .f32) {Q : PUnit → sProp 𝕄} :
    iprop(owns (c : Thread nD τ) arg4 fullShare v ∗ Ending X K c 1)
      ⊢ iprop(((owns (c : Thread nD τ) arg4 fullShare (k0_pay3 u v) ∗ Ending X K c 4) -∗ Q ⟨⟩)
        -∗ WP (k0_part3 i arg1 h1 arg2 h2 arg3 h3 arg4 h4 (Memref.whole cc0_scratch0) (Memref.isWhole_whole _)
            (Memref.whole cc0_scratch1) (Memref.isWhole_whole _) cc0_scratch2 cc0_scratch3 u) Q) := by
  rw [k0_part3_eq_skeleton]
  unfold k0_part3_skel
  simp only [Prog.lift, Prog.bind_op, Prog.bind_ret, Prog.pure_eq_ret]
  iintro ⟨Hv, H⟩ Hk
  iapply (wp_read c arg4 fullShare v) $$ Hv
  iintro Hv
  iapply (wp_read c arg4 fullShare v) $$ Hv
  iintro Hv
  iapply (wp_write c arg4 v (k0_pay3 u v)) $$ Hv
  iintro Hv
  iapply (wp_ending X K c ⟨1, by decide⟩ (by decide) (sendS_eq ⟨1, by decide⟩)) $$ H
  iintro H
  iapply (wp_ending X K c ⟨2, by decide⟩ (by decide) (sendS_eq ⟨2, by decide⟩)) $$ H
  iintro H
  iapply (wp_ending X K c ⟨3, by decide⟩ (by decide) (sendS_eq ⟨3, by decide⟩)) $$ H
  iintro H
  rw [wp_ret]
  imodintro
  iapply Hk
  isplitl [Hv]; · iexact Hv
  iexact H

/-- The waits in the middle. -/
theorem wp_part4 {Q : PUnit → sProp 𝕄} :
    Ending X K c 4 ⊢ iprop((Ending X K c 8 -∗ Q ⟨⟩)
        -∗ WP (k0_part4 i arg1 h1 arg2 h2 arg3 h3 arg4 h4 (Memref.whole cc0_scratch0) (Memref.isWhole_whole _)
            (Memref.whole cc0_scratch1) (Memref.isWhole_whole _) cc0_scratch2 cc0_scratch3) Q) := by
  rw [k0_part4_eq_skeleton]
  unfold k0_part4_skel
  simp only [Prog.lift, Prog.bind_op, Prog.bind_ret, Prog.pure_eq_ret]
  iintro H Hk
  iapply (wp_ending X K c ⟨4, by decide⟩ (by decide) (sendS_eq ⟨4, by decide⟩)) $$ H
  iintro H
  iapply (wp_ending X K c ⟨5, by decide⟩ (by decide) (sendS_eq ⟨5, by decide⟩)) $$ H
  iintro H
  iapply (wp_ending X K c ⟨6, by decide⟩ (by decide) (sendS_eq ⟨6, by decide⟩)) $$ H
  iintro H
  iapply (wp_ending X K c ⟨7, by decide⟩ (by decide) (sendS_eq ⟨7, by decide⟩)) $$ H
  iintro H
  rw [wp_ret]
  imodintro
  iapply Hk
  iexact H

theorem wp_part5 {Q : PUnit → sProp 𝕄} :
    Ending X K c 8 ⊢ iprop((Ending X K c 13 -∗ Q ⟨⟩)
        -∗ WP (k0_part5 i arg1 h1 arg2 h2 arg3 h3 arg4 h4 (Memref.whole cc0_scratch0) (Memref.isWhole_whole _)
            (Memref.whole cc0_scratch1) (Memref.isWhole_whole _) cc0_scratch2 cc0_scratch3) Q) := by
  rw [k0_part5_eq_skeleton]
  unfold k0_part5_skel
  simp only [Prog.lift, Prog.bind_op, Prog.bind_ret, Prog.pure_eq_ret]
  iintro H Hk
  iapply (wp_ending X K c ⟨8, by decide⟩ (by decide) (sendS_eq ⟨8, by decide⟩)) $$ H
  iintro H
  iapply (wp_ending X K c ⟨9, by decide⟩ (by decide) (sendS_eq ⟨9, by decide⟩)) $$ H
  iintro H
  iapply (wp_ending X K c ⟨10, by decide⟩ (by decide) (sendS_eq ⟨10, by decide⟩)) $$ H
  iintro H
  iapply (wp_ending X K c ⟨11, by decide⟩ (by decide) (sendS_eq ⟨11, by decide⟩)) $$ H
  iintro H
  iapply (wp_ending X K c ⟨12, by decide⟩ (by decide) (sendS_eq ⟨12, by decide⟩)) $$ H
  iintro H
  rw [wp_ret]
  imodintro
  iapply Hk
  iexact H

set_option maxHeartbeats 800000 in
/-- THE BODY at one point. -/
theorem wp_body (W : Waits sig Unit) (w v : Vec F S256x8192 .f32) {Q : PUnit → sProp 𝕄} :
    iprop(invs X K ∗ levAts L lv ∗ owns (c : Thread nD τ) arg2 fullShare (X c) ∗ owns (c : Thread nD τ) arg3 fullShare w
        ∗ owns (c : Thread nD τ) arg4 fullShare v ∗ AtPoint X c (i 0).val ∗ owes (c : Thread nD τ) (OwesAt c (i 0).val) W)
      ⊢ iprop((∀ W' : Waits sig Unit, (owns (c : Thread nD τ) arg2 fullShare (X c) ∗ owns (c : Thread nD τ) arg3 fullShare w
          ∗ owns (c : Thread nD τ) arg4 fullShare (step X c (dist i) w v) ∗ AfterPoint X c (i 0).val
          ∗ owes (c : Thread nD τ) (Ow c (i 0).val 16) W') -∗ Q ⟨⟩)
        -∗ WP (cc0_body i arg1 h1 arg2 h2 arg3 h3 arg4 h4 (Memref.whole cc0_scratch0) (Memref.isWhole_whole _)
            (Memref.whole cc0_scratch1) (Memref.isWhole_whole _) cc0_scratch2 cc0_scratch3) Q) := by
  rw [cc0_body_eq_skeleton]
  unfold cc0_body_skel
  rw [wp_bind]
  iintro ⟨#HI, #Hlev, Hx, Hw, Hv, HA, HO⟩ Hk
  iapply (wp_part6 X K c i arg1 h1 arg2 h2 arg3 h3 arg4 h4 W) $$ [Hx HA HO]
  · isplitr; · iexact HI
    isplitr; · iexact Hlev
    isplitl [Hx]; · iexact Hx
    isplitl [HA]; · iexact HA
    iexact HO
  iintro %a0 %v2 %v5 %W ⟨Hx, HD, HO⟩
  unfold During
  icases HD with ⟨HS, HR, Hb⟩
  dsimp only
  rw [wp_bind]
  iapply (wp_part7 X K c i arg1 h1 arg2 h2 arg3 h3 arg4 h4 W a0 v2) $$ [HS HO]
  · isplitr; · iexact HI
    isplitl [HS]; · iexact HS
    iexact HO
  iintro ⟨HS, HO⟩
  ihave ⟨Hi, HR⟩ := (RecvSt_point X c i) $$ HR
  simp -zeta only [Prog.lift, Prog.bind_op, Prog.bind_ret, Prog.pure_eq_ret]
  iapply (wp_block_at X K c (dist i) (i 0).val rfl (recv_at (off49_eq i c)) (off50_eq i c) W) $$ [Hi HO]
  · isplitr; · iexact HI
    isplitr; · iexact Hlev
    isplitl [Hi]; · iexact Hi
    iexact HO
  iintro %W ⟨Hi, HO⟩
  unfold GotItem
  icases Hi with ⟨Hz, Hsl, Hx0⟩
  iapply (wp_slot c (c - dist i) (rb X c) (off51_eq i c)) $$ Hsl
  iintro Hsl
  iapply (wp_read c arg3 fullShare w) $$ Hw
  iintro Hw
  ihave HR := HR $$ [Hz Hsl Hx0]
  · isplitl [Hz]; · iexact Hz
    isplitl [Hsl]; · iexact Hsl
    iexact Hx0
  by_cases h0 : (i 0).val = 0
  · iapply (wp_then c ((cond17_iff i).mpr h0))
    iapply (wp_read c arg4 fullShare v) $$ Hv
    iintro Hv
    iapply (wp_write c arg4 v (k0_pay1 (readSlot (c - dist i) (rb X c)) w)) $$ Hv
    iintro Hv
    iapply (wp_else c (fun h => by have := (cond18_iff i).mp h; omega))
    iapply (wp_else c (fun h => by have := (cond19_iff i).mp h; omega))
    rw [wp_ret]
    imodintro
    iapply Hk $$ %W
    have hs : step X c (dist i) w v = k0_pay1 (readSlot (c - dist i) (rb X c)) w := if_pos h0
    have ha : AfterPoint X c (i 0).val = During X c ((i 0).val + 1) 1 := if_neg (by omega)
    rw [hs, ha, During, ← SendSt_next]
    isplitl [Hx]; · iexact Hx
    isplitl [Hw]; · iexact Hw
    isplitl [Hv]; · iexact Hv
    isplitr [HO]
    · isplitl [HS]; · iexact HS
      isplitl [HR]; · iexact HR
      iexact Hb
    iexact HO
  iapply (wp_else c (fun h => h0 ((cond17_iff i).mp h)))
  by_cases h15 : (i 0).val = 15
  · iapply (wp_else c (fun h => by have := (cond18_iff i).mp h; omega))
    iapply (wp_then c ((cond19_iff i).mpr h15))
    have hs : step X c (dist i) w v = k0_pay3 (k0_pay1 (readSlot (c - dist i) (rb X c)) w) v := (if_neg h0).trans (if_pos h15)
    have ha : AfterPoint X c (i 0).val = Done X c := if_pos h15
    have hr : (i 0).val + 1 = 16 := by omega
    have ho : Ow c (i 0).val 16 = 0 := by rw [h15]; exact Ow_last c 16
    ihave H := (Ending_intro X K c _ h15 W) $$ [HS HO]
    · isplitr; · iexact HI
      isplitl [HS]; · iexact HS
      iexact HO
    rw [wp_bind]
    iapply (wp_part3 X K c i arg1 h1 arg2 h2 arg3 h3 arg4 h4 v (k0_pay1 (readSlot (c - dist i) (rb X c)) w)) $$ [Hv H]
    · isplitl [Hv]; · iexact Hv
      iexact H
    iintro ⟨Hv, H⟩
    rw [wp_bind]
    iapply (wp_part4 X K c i arg1 h1 arg2 h2 arg3 h3 arg4 h4) $$ H
    iintro H
    rw [wp_bind]
    iapply (wp_part5 X K c i arg1 h1 arg2 h2 arg3 h3 arg4 h4) $$ H
    iintro H
    iapply (wp_ending X K c ⟨13, by decide⟩ (by decide) (sendS_eq ⟨13, by decide⟩)) $$ H
    iintro H
    iapply (wp_ending X K c ⟨14, by decide⟩ (by decide) (sendS_eq ⟨14, by decide⟩)) $$ H
    iintro H
    iapply (wp_ending X K c ⟨15, by decide⟩ (by decide) (sendS_eq ⟨15, by decide⟩)) $$ H
    iintro H
    rw [wp_ret]
    imodintro
    unfold Ending
    icases H with ⟨-, HS, ⟨%W, HO⟩⟩
    iapply Hk $$ %W
    rw [hs, ha, ho, hr, Done]
    isplitl [Hx]; · iexact Hx
    isplitl [Hw]; · iexact Hw
    isplitl [Hv]; · iexact Hv
    isplitr [HO]
    · isplitl [HS]; · iexact HS
      isplitl [HR]; · iexact HR
      iexact Hb
    iexact HO
  iapply (wp_then c ((cond18_iff i).mpr ⟨by omega, by have := (i 0).isLt; have : (i 0).val < 16 := this; omega⟩))
  iapply (wp_read c arg4 fullShare v) $$ Hv
  iintro Hv
  iapply (wp_read c arg4 fullShare v) $$ Hv
  iintro Hv
  iapply (wp_write c arg4 v (k0_pay2 (readSlot (c - dist i) (rb X c)) w v)) $$ Hv
  iintro Hv
  iapply (wp_else c (fun h => h15 ((cond19_iff i).mp h)))
  rw [wp_ret]
  imodintro
  iapply Hk $$ %W
  have hs : step X c (dist i) w v = k0_pay2 (readSlot (c - dist i) (rb X c)) w v := (if_neg h0).trans (if_neg h15)
  have ha : AfterPoint X c (i 0).val = During X c ((i 0).val + 1) 1 := if_neg h15
  rw [hs, ha, During, ← SendSt_next]
  isplitl [Hx]; · iexact Hx
  isplitl [Hw]; · iexact Hw
  isplitl [Hv]; · iexact Hv
  isplitr [HO]
  · isplitl [HS]; · iexact HS
    isplitl [HR]; · iexact HR
    iexact Hb
  iexact HO

end Cert.KernelIdeal.Talk

end

end
-- ==== Proof.Data.lean ====
/-
# The table of a device, the pipeline at it, and what the windows hold

The prefetched table of a device holds the device's number, so the second operand's window moves, from point to point,
over the blocks of rows `c, c - 1, …` (modulo 16): the pipeline is pinned at one table per device.
-/
module

public import proofs.«01_k».proof.Proof.Body
public import proofs.«01_k».proof.Proof.Gen.KernelIdeal.Launch
public import Idealize.ShloMosaic.Lib.Pipeline.Frame
public import Idealize.ShloMosaic.Lib.Pipeline.ValueKit
public import Idealize.ShloMosaic.Lib.Pipeline.FrameBody

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table -/

/-- The table of device `c`. -/
def tab (c : Dev nD) : pre0.Contents (Elt F) := fun | 0 => fun _ => BitVec.ofNat 32 c.val

theorem tr1 (c : Dev nD) (i : grid0.Coords) :
    cc0_transform_1 inb_S1_S1_0 numel1_S1 (tab (F := F) c) i = ![(c - dist i).val, 0] := by
  have h : ∀ (c : Fin 16) (t : Fin 16), (Scalar.remsi (Scalar.addi (Scalar.subi (BitVec.ofNat 32 c.val) (BitVec.ofNat 32 t.val)) 16#32) 16#32).toNat = (c - t).val := by
    decide +kernel
  show ![(Scalar.remsi (Scalar.addi (Scalar.subi (BitVec.ofNat 32 c.val) (BitVec.ofNat 32 (i 0).val)) 16#32) 16#32).toNat, (0#32 : BitVec 32).toNat] = _
  rw [show (i 0).val = (dist i).val from rfl, h c (dist i)]
  rfl

theorem ok_tab (c : Dev nD) : ok0 (tab (F := F) c) := fun i => by
  refine ⟨fun a => ?_, .inl rfl⟩
  rw [tr1]
  have := (c - dist i).isLt
  have h16 : (c - dist i).val < 16 := this
  fin_cases a
  · show ((c - dist i).val + 1) * 256 ≤ 4096; omega
  · show (0 + 1) * 8192 ≤ 8192; omega

/-- The tables, as the pipeline takes them. -/
def adm (c : Dev nD) : (p : Fin 1) → (pcfgs (F := F) p).Adm := fun _ => ⟨tab c, ok_tab c⟩

/-- The pipeline of device `c`. -/
abbrev pipe (c : Dev nD) : Pipeline.Cfg sig Λ₀ := Pipeline.pinD (pcfgs (F := F)) adm c 0

/-! ## What the windows hold -/

variable (m : (ℓ : Loc nD τ sig) → Buf (Elt F) ℓ)

/-- The two operands as device `c` holds them. -/
def X (c : Dev nD) : Vec F S4096x256 .f32 := m ((c : Thread nD τ).loc main_arg0)
def Wt (c : Dev nD) : Vec F S4096x8192 .f32 := m ((c : Thread nD τ).loc main_arg1)

/-- Row `256 d + i` of the second operand. -/
def wIx (d : Dev nD) (i : Fin 256) (j : Fin 8192) : S4096x8192.Idx :=
  fun | 0 => ⟨256 * d.val + i.val, by have hd : d.val < 16 := d.isLt; have hi := i.isLt; change _ < 4096; omega⟩ | 1 => j
/-- The rows of the second operand that point `t` takes. -/
def wRow (c t : Dev nD) : Vec F S256x8192 .f32 := fun y => Wt m c (wIx (c - t) (y 0) (y 1))

/-- Point `n` of the grid. -/
def pt (n : ℕ) : Dev nD := ⟨n % 16, Nat.mod_lt _ (by decide)⟩
/-- What the result block holds after point `n`. -/
def acc (c : Dev nD) : ℕ → Vec F S256x8192 .f32
  | 0 => step (X m) c 0 (wRow m c 0) (wRow m c 0)
  | n + 1 => step (X m) c (pt (n + 1)) (wRow m c (pt (n + 1))) (acc c n)

theorem step_zero (Z : Dev nD → Vec F S4096x256 .f32) (c t : Dev nD) (h : t.val = 0) (w p p' : Vec F S256x8192 .f32) : step Z c t w p = step Z c t w p' := by
  unfold step; rw [if_pos h, if_pos h]

/-- What a device has before point `t`, and at the end. -/
def State (c : Dev nD) (t : ℕ) : sProp 𝕄 := if t = 16 then Done (X m) c else AtPoint (X m) c t

theorem State_next (c : Dev nD) (t : ℕ) : AfterPoint (X m) c t = State m c (t + 1) := by
  unfold AfterPoint State AtPoint
  rw [if_neg (Nat.succ_ne_zero t)]
  exact if_congr (by omega) rfl rfl

/-- The invariant before point `t`. -/
def Inv (c : Dev nD) (t : ℕ) : sProp 𝕄 := iprop((∃ K, invs (X m) K) ∗ levAts L lv ∗ State m c t)

/-- What the region's proof takes: the arrays, what the windows' buffers hold after each point, the invariant, and what a
    device owes. -/
def dats : (p : Fin 1) → (c : Dev nD) → Pipeline.Dat τ (Elt F) Unit ℕ UU ℕ (Pipeline.pinD (pcfgs (F := F)) adm c p) c
  | 0, c => {
      A := fun | 0 => m ((c : Thread nD τ).loc main_arg0) | 1 => m ((c : Thread nD τ).loc main_arg1) | 2 => m ((c : Thread nD τ).loc main_v6)
      after := fun | 0 => fun _ => X m c | 1 => fun t => wRow m c (dist (grid0.coords t)) | 2 => fun t => acc m c t.val
      Φ := fun t => Inv m c t.val
      q := fun _ => fullShare
      owed := fun t => OwesAt c t.val }

theorem dist_coords (t : Fin grid0.N) : (dist (grid0.coords t)).val = t.val := by revert t; decide +kernel

section Windows
variable (c : Dev nD)

theorem index_0 (t : Fin grid0.N) : ((pipe (F := F) c).win 0).index t = ![0, 0] := rfl
theorem index_1 (t : Fin grid0.N) : ((pipe (F := F) c).win 1).index t = ![(c - dist (grid0.coords t)).val, 0] := tr1 c _
theorem index_2 (t : Fin grid0.N) : ((pipe (F := F) c).win 2).index t = ![0, 0] := rfl

theorem blockOf_0 (t : Fin grid0.N) (y) : (dats m 0 c).blockOf 0 t y = X m c y := by
  rw [Pipeline.Dat.blockOf_apply]
  show m ((c : Thread nD τ).loc main_arg0) ((((pipe (F := F) c).win 0).rect t).emb y) = m ((c : Thread nD τ).loc main_arg0) y
  congr 1
  funext a; apply Fin.ext
  rw [Pipeline.Window.rect_emb_val _ _ _ _ rfl, index_0]
  fin_cases a
  · show 0 * _ + _ = _; omega
  · show 0 * _ + _ = _; omega

theorem blockOf_1 (t : Fin grid0.N) (y) : (dats m 0 c).blockOf 1 t y = wRow m c (dist (grid0.coords t)) y := by
  rw [Pipeline.Dat.blockOf_apply]
  show m ((c : Thread nD τ).loc main_arg1) ((((pipe (F := F) c).win 1).rect t).emb y) = m ((c : Thread nD τ).loc main_arg1) (wIx (c - dist (grid0.coords t)) (y (0 : Fin 2)) (y (1 : Fin 2)))
  congr 1
  funext a; apply Fin.ext
  rw [Pipeline.Window.rect_emb_val _ _ _ _ rfl, index_1]
  fin_cases a
  · show (c - dist (grid0.coords t)).val * 256 + (y (0 : Fin 2)).val = 256 * (c - dist (grid0.coords t)).val + (y (0 : Fin 2)).val; rw [Nat.mul_comm]
  · show 0 * 8192 + (y (1 : Fin 2)).val = (y (1 : Fin 2)).val; omega

/-- An uncut block laid over anything is the block. -/
theorem fill_whole (w : Fin 3) (t : Fin grid0.N) (hc : ∀ a, ((pipe (F := F) c).win w).clip (grid0.coords t) a = none) {α : Type} (d g' : ((pipe (F := F) c).win w).block.Idx → α)
    (g : (((pipe (F := F) c).win w).xblock (grid0.coords t)).Idx → α)
    (h : ∀ y (hy : ((pipe (F := F) c).win w).moved (grid0.coords t) y = true), g (fun a => ⟨(y a).val, (((pipe (F := F) c).win w).moved_iff _ y).mp hy a⟩) = g' y) :
    ((pipe (F := F) c).win w).fill (grid0.coords t) d g = g' := by
  funext y
  have hm : ((pipe (F := F) c).win w).moved (grid0.coords t) y = true :=
    (((pipe (F := F) c).win w).moved_iff _ y).mpr fun a => by have := (y a).isLt; unfold Pipeline.Window.xsize; rw [hc a]; exact this
  unfold Pipeline.Window.fill
  rw [dif_pos hm]
  exact h y hm

theorem before_0 (t : Fin grid0.N) (d) : (dats m 0 c).before 0 t d = X m c := by
  rw [Pipeline.Dat.before_in_eq_fetched (dats m 0 c) 0 rfl (fun _ => rfl) (fun _ _ _ => rfl) (fun t => funext fun y => (blockOf_0 m c t y).symm)]
  exact fill_whole c 0 t (fun _ => rfl) d _ _ fun y hy => blockOf_0 m c t _

theorem before_1 (t : Fin grid0.N) (d) : (dats m 0 c).before 1 t d = wRow m c (dist (grid0.coords t)) := by
  rw [Pipeline.Dat.before_in_eq_fetched (dats m 0 c) 1 rfl (fun _ => rfl) (fun _ _ _ => rfl) (fun t => funext fun y => (blockOf_1 m c t y).symm)]
  exact fill_whole c 1 t (fun _ => rfl) d _ _ fun y hy => blockOf_1 m c t _

theorem live_2 : ∀ t : Fin grid0.N, idle0 2 (grid0.coords t) = false := by decide +kernel

theorem flush_2 (t : Fin grid0.N) (h : t.val + 1 ≠ grid0.N) : ((pipe (F := F) c).win 2).flush t = false := by
  unfold Pipeline.Window.flush
  rw [show decide (t.val + 1 = (pipe (F := F) c).grid.N) = false from decide_eq_false h, Bool.false_or]
  rw [decide_eq_false (by rintro ⟨h', hne⟩; exact hne rfl)]
  exact Bool.and_false _

/-- After a later point, the result block is the point's arithmetic on what it held before. -/
theorem after_2 (t : Fin grid0.N) (d) : step (X m) c (dist (grid0.coords t)) (wRow m c (dist (grid0.coords t))) ((dats m 0 c).before 2 t d) = (dats m 0 c).after 2 t := by
  have hd : dist (grid0.coords t) = pt t.val := Fin.ext ((dist_coords t).trans (Nat.mod_eq_of_lt t.isLt).symm)
  rw [hd]
  obtain ⟨n, hn⟩ := t
  cases n with
  | zero => exact step_zero (X m) c (pt 0) rfl (wRow m c (pt 0)) ((dats m 0 c).before 2 ⟨0, hn⟩ d) (wRow m c 0)
  | succ n =>
    rw [Pipeline.Dat.before_of_pos (dats m 0 c) 2 ⟨n + 1, hn⟩ (Nat.succ_ne_zero n) rfl, flush_2 c _ (by show n + 1 ≠ grid0.N; omega), if_neg Bool.false_ne_true]
    unfold Pipeline.Dat.left
    rw [show (pipe (F := F) c).idle 2 ((pipe (F := F) c).grid.coords _) = false from live_2 _]
    show step _ _ _ _ ((dats m 0 c).kept 2 ⟨n, _⟩ d) = _
    rw [show (dats m 0 c).kept 2 ⟨n, Nat.lt_of_succ_lt hn⟩ d = acc m c n from fill_whole c 2 _ (fun _ => rfl) d _ _ fun y hy => rfl]
    rfl

end Windows

end Cert.KernelIdeal.Talk

end

end
-- ==== Proof.Obligation.lean ====
/-
# The body, as the pipeline asks for it

The body's rule, at every point of the grid, between the windows' buffers.
-/
module

public import proofs.«01_k».proof.Proof.Data

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What the body needs of the invariant, the owing and the windows at point `t`, and what it leaves. -/
theorem body_point (t : Fin grid0.N) (W : Waits sig Unit)
    (arg1 : Memref sig .tc .smem S1 .i32) (h1 : arg1.IsWhole)
    (arg2 : Memref sig .tc .vmem S4096x256 .f32) (h2 : arg2.IsWhole) (arg3 : Memref sig .tc .vmem S256x8192 .f32) (h3 : arg3.IsWhole)
    (arg4 : Memref sig .tc .vmem S256x8192 .f32) (h4 : arg4.IsWhole) (v : Vec F S256x8192 .f32) {Q : PUnit → sProp 𝕄} :
    iprop(Inv m c t.val ∗ owes (c : Thread nD τ) (OwesAt c t.val) W ∗ owns (c : Thread nD τ) arg2 fullShare (X m c)
        ∗ owns (c : Thread nD τ) arg3 fullShare (wRow m c (dist (grid0.coords t))) ∗ owns (c : Thread nD τ) arg4 fullShare v)
      ⊢ iprop((∀ W' : Waits sig Unit, (Inv m c (t.val + 1) ∗ owes (c : Thread nD τ) (OwesAt c (t.val + 1)) W'
          ∗ owns (c : Thread nD τ) arg2 fullShare (X m c) ∗ owns (c : Thread nD τ) arg3 fullShare (wRow m c (dist (grid0.coords t)))
          ∗ owns (c : Thread nD τ) arg4 fullShare (step (X m) c (dist (grid0.coords t)) (wRow m c (dist (grid0.coords t))) v)) -∗ Q ⟨⟩)
        -∗ wp frame (wpE (defs₀ (F := F)) 𝒱₀ (c : Thread nD τ) none) Set.univ (cc0_body (grid0.coords t) arg1 h1 arg2 h2 arg3 h3 arg4 h4 (Memref.whole cc0_scratch0) (Memref.isWhole_whole _)
            (Memref.whole cc0_scratch1) (Memref.isWhole_whole _) cc0_scratch2 cc0_scratch3) Q) := by
  have ht : (grid0.coords t 0).val = t.val := (dist_val (grid0.coords t)).symm.trans (dist_coords t)
  have hs : AfterPoint (X m) c (grid0.coords t 0).val = State m c (t.val + 1) := by rw [ht]; exact State_next m c t.val
  have ho : Ow c (grid0.coords t 0).val 16 = OwesAt c (t.val + 1) := by
    rw [ht, ← Ow_next]; exact (if_neg (Nat.succ_ne_zero _)).symm
  have hb : State m c t.val = AtPoint (X m) c (grid0.coords t 0).val := by
    rw [ht]; exact if_neg (show t.val ≠ 16 from by have : t.val < 16 := t.isLt; omega)
  have hw : OwesAt c t.val = OwesAt c (grid0.coords t 0).val := by rw [ht]
  unfold Inv
  rw [hb, hw, ← hs, ← ho]
  iintro ⟨⟨⟨%K, #HI⟩, #Hlev, HA⟩, HO, Hx, Hw, Hv⟩ Hk
  iapply (wp_body (X m) K c (grid0.coords t) arg1 h1 arg2 h2 arg3 h3 arg4 h4 W (wRow m c (dist (grid0.coords t))) v) $$ [Hx Hw Hv HA HO]
  · isplitr; · iexact HI
    isplitr; · iexact Hlev
    isplitl [Hx]; · iexact Hx
    isplitl [Hw]; · iexact Hw
    isplitl [Hv]; · iexact Hv
    isplitl [HA]; · iexact HA
    iexact HO
  · iintro %W' ⟨Hx, Hw, Hv, HA, HO⟩
    iapply Hk $$ %W'
    isplitl [HA]
    · isplitr; · iexists K; iexact HI
      isplitr; · iexact Hlev
      iexact HA
    isplitl [HO]; · iexact HO
    isplitl [Hx]; · iexact Hx
    isplitl [Hw]; · iexact Hw
    iexact Hv

theorem in_0 (t : Fin grid0.N) (M : Memref sig .tc .vmem S4096x256 .f32) :
    (iprop(∃ d, owns (c : Thread nD τ) M fullShare ((dats m 0 c).before 0 t d)) : sProp 𝕄) ⊢ owns (c : Thread nD τ) M fullShare (X m c) :=
  exists_elim fun d => Entails.of_eq (congrArg (owns (c : Thread nD τ) M fullShare) (before_0 m c t d))
theorem in_1 (t : Fin grid0.N) (M : Memref sig .tc .vmem S256x8192 .f32) :
    (iprop(∃ d, owns (c : Thread nD τ) M fullShare ((dats m 0 c).before 1 t d)) : sProp 𝕄) ⊢ owns (c : Thread nD τ) M fullShare (wRow m c (dist (grid0.coords t))) :=
  exists_elim fun d => Entails.of_eq (congrArg (owns (c : Thread nD τ) M fullShare) (before_1 m c t d))
theorem out_2 (t : Fin grid0.N) (M : Memref sig .tc .vmem S256x8192 .f32) (d) :
    (owns (c : Thread nD τ) M fullShare (step (X m) c (dist (grid0.coords t)) (wRow m c (dist (grid0.coords t))) ((dats m 0 c).before 2 t d)) : sProp 𝕄)
      ⊢ owns (c : Thread nD τ) M fullShare (acc m c t.val) :=
  Entails.of_eq (congrArg (owns (c : Thread nD τ) M fullShare) (after_2 m c t d))

/-- A window's buffer as the pipeline names it after the body, when the window is never idle. -/
theorem live : ∀ (w : Fin 3) (t : Fin grid0.N), idle0 w (grid0.coords t) = false := by decide +kernel

theorem leaves_2 (t : Fin grid0.N) :
    (owns (c : Thread nD τ) (spec0_2.stage ((pipe (F := F) c).slots t 2)) fullShare (acc m c t.val) : sProp 𝕄)
      ⊢ match (pipe (F := F) c).idle 2 ((pipe (F := F) c).grid.coords t) with
        | true => match ((pipe (F := F) c).win 2).flush t with
          | false => iprop(∃ d, owns c (((pipe (F := F) c).win 2).stage ((pipe (F := F) c).slots t 2)) fullShare ((dats m 0 c).before 2 t d))
          | true => owns c (((pipe (F := F) c).win 2).stage ((pipe (F := F) c).slots t 2)) fullShare ((dats m 0 c).after 2 t)
        | false => owns c (((pipe (F := F) c).win 2).stage ((pipe (F := F) c).slots t 2)) fullShare ((dats m 0 c).after 2 t) := by
  have h : (pipe (F := F) c).idle 2 ((pipe (F := F) c).grid.coords t) = false := live 2 t
  split
  · rename_i h'; rw [h] at h'; cases h'
  · exact .rfl

theorem body_between (t : Fin grid0.N) : iprop(Inv m c t.val ∗ (dats m 0 c).owesAt () t.castSucc
      ∗ (∃ d, owns (c : Thread nD τ) (spec0_0.stage ((pipe (F := F) c).slots t 0)) fullShare ((dats m 0 c).before 0 t d))
      ∗ (∃ d, owns (c : Thread nD τ) (spec0_1.stage ((pipe (F := F) c).slots t 1)) fullShare ((dats m 0 c).before 1 t d))
      ∗ (∃ d, owns (c : Thread nD τ) (spec0_2.stage ((pipe (F := F) c).slots t 2)) fullShare ((dats m 0 c).before 2 t d)))
    ⊢ wp frame (wpE (defs₀ (F := F)) 𝒱₀ (c : Thread nD τ) none) Set.univ (cc0_body (grid0.coords t) (Memref.whole main_v5) (Memref.isWhole_whole _)
        (spec0_0.stage ((pipe (F := F) c).slots t 0)) (hstage0_0 (((pipe (F := F) c).slots t 0).cast nbuf0_0))
        (spec0_1.stage ((pipe (F := F) c).slots t 1)) (hstage0_1 (((pipe (F := F) c).slots t 1).cast nbuf0_1))
        (spec0_2.stage ((pipe (F := F) c).slots t 2)) (hstage0_2 (((pipe (F := F) c).slots t 2).cast nbuf0_2))
        (Memref.whole cc0_scratch0) (Memref.isWhole_whole _) (Memref.whole cc0_scratch1) (Memref.isWhole_whole _) cc0_scratch2 cc0_scratch3)
      (fun _ => iprop(Inv m c (t.val + 1) ∗ (dats m 0 c).owesAt () t.succ
        ∗ owns (c : Thread nD τ) (spec0_0.stage ((pipe (F := F) c).slots t 0)) fullShare (X m c)
        ∗ owns (c : Thread nD τ) (spec0_1.stage ((pipe (F := F) c).slots t 1)) fullShare (wRow m c (dist (grid0.coords t)))
        ∗ owns (c : Thread nD τ) (spec0_2.stage ((pipe (F := F) c).slots t 2)) fullShare (acc m c t.val))) := by
  unfold Pipeline.Dat.owesAt Pipeline.owesWithin
  iintro ⟨HI, ⟨%W, %hW, HO⟩, Hx, Hw, %d, Hv⟩
  ihave Hx := (in_0 m c t _) $$ Hx
  ihave Hw := (in_1 m c t _) $$ Hw
  iapply (body_point m c t W (Memref.whole main_v5) (Memref.isWhole_whole _) _ (hstage0_0 (((pipe (F := F) c).slots t 0).cast nbuf0_0)) _ (hstage0_1 (((pipe (F := F) c).slots t 1).cast nbuf0_1)) _ (hstage0_2 (((pipe (F := F) c).slots t 2).cast nbuf0_2)) ((dats m 0 c).before 2 t d)) $$ [HI HO Hx Hw Hv]
  · isplitl [HI]; · iexact HI
    isplitl [HO]; · iexact HO
    isplitl [Hx]; · iexact Hx
    isplitl [Hw]; · iexact Hw
    iexact Hv
  · iintro %W' ⟨HI, HO, Hx, Hw, Hv⟩
    isplitl [HI]; · iexact HI
    isplitl [HO]
    · iexists W'
      isplitr; · ipureintro; exact fun _ _ => Or.inl trivial
      iexact HO
    isplitl [Hx]; · iexact Hx
    isplitl [Hw]; · iexact Hw
    iapply (out_2 m c t _ d); iexact Hv

theorem body_obligation : Pipeline.BodyObligation (dats (F := F) m 0 c) (defs₀ (F := F)) 𝒱₀ () Set.univ := fun t => by
  rw [bigSep_W0, bigSep_W0]
  refine (body_between m c t).trans (wp_mono _ _ _ fun _ => ?_)
  refine sep_mono .rfl (sep_mono .rfl (sep_mono .rfl (sep_mono .rfl (leaves_2 m c t))))

end Cert.KernelIdeal.Talk

end

end
-- ==== Proof.Region.lean ====
/-
# The region of a device

What a device holds when it enters the kernel's region, what it puts into the pipeline's invariant there, and what
it gets back.
-/
module

public import proofs.«01_k».proof.Proof.Obligation
public import proofs.«01_k».proof.Proof.Gen.KernelIdeal.Regions

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The table, computed by the host -/

theorem V1_table : V1 m c main_v5 = tab (F := F) c 0 := by
  have h : ∀ c : Fin 16, IntOp.remui .host (IntOp.divui .host (Dev.word (nD := 16) c) 1#32) 16#32 = BitVec.ofNat 32 c.val := by decide +kernel
  show StableHlo.after (hostOps0 c) (V0 m c) (Proc.devRef .tc main_v5) = _
  simp only [StableHlo.after_cons, StableHlo.after_nil]
  rw [StableHlo.reshape_result]
  funext i
  show shapeCast S1 _ _ i = _
  rw [StableHlo.unary_result, StableHlo.binary_result, StableHlo.binary_result]
  exact h c

/-- The semaphores the kernel names itself. -/
def osem : Fin 16 ⊕ Fin 16 → SemLoc sig
  | .inl o => .dma (sendS o)
  | .inr s => .dma (recvS s)

theorem ownSems_eq : (Pipeline.ownSems0 (Ix := Unit) (Name := ℕ) (U := UU) (Lvl := ℕ) (Val := Elt F) (τ := τ) osem c : sProp 𝕄)
    = iprop((bigSep Finset.univ fun o : Dev nD => semVal (sendCell c o) 0) ∗ bigSep Finset.univ fun s : Dev nD => semVal (recvCell c s) 0) := by
  unfold Pipeline.ownSems0
  rw [BI.bigSep_univ_sum]
  rfl

theorem ownFacts : Pipeline.OwnSemFacts (pcfgs (F := F) 0).spec osem := by
  show Pipeline.OwnSemFacts spec0 osem
  decide +kernel

/-! ## What a device holds at launch -/

/-- For each distance: the right to give the barrier unit, -/
def GiveRight (o : Dev nD) : sProp 𝕄 :=
  if o = 0 then iprop(emp) else iprop(dutyTok ER (barCell (c + o)) 0 c ∗ reached ER (barCell (c + o)) 0)
/-- the right to open the send cell and the tokens of the transfer, -/
def SendRight (o : Dev nD) : sProp 𝕄 :=
  iprop(openTok ER (sendCell c o) ∗ if o = 0 then iprop(emp) else iprop(dutyTok ER (sendCell c o) 0 0 ∗ dutyTok ER (recvCell (c + o) c) 0 0))
/-- the right to open the receive cell, and the credit of the block awaited. -/
def RecvRight (o : Dev nD) : sProp 𝕄 :=
  iprop(openTok ER (recvCell c (c - o)) ∗ if o = 0 then iprop(emp) else iprop(cred (tallyAt (recvCell c (c - o)) () N)))

/-- All of it. -/
def Start : sProp 𝕄 :=
  iprop((∃ K, invs (X m) K) ∗ (cred (tallyAt (barCell c) () 15) ∗ atPos ER (barCell c) 0 ∅ 0)
    ∗ bigSep Finset.univ (GiveRight (F := F) c) ∗ bigSep Finset.univ (SendRight (F := F) c) ∗ bigSep Finset.univ (RecvRight (F := F) c)
    ∗ dutyTok ER (recvCell c c) 0 0)

/-! ## Opening the cells -/

theorem open_send (K : GSem nD τ sig → ℕ) (o : Dev nD) :
    iprop(invs (X m) K ∗ (SendRight (F := F) c o ∗ semVal (sendCell c o) 0)) ⊢ (|={Set.univ}=> PreSt (F := F) c o : sProp 𝕄) := by
  unfold SendRight PreSt PreItem
  by_cases h : o = 0
  · subst h
    rw [if_pos rfl, if_pos rfl]
    iintro ⟨-, -, H⟩
    imodintro; iexact H
  · rw [if_neg h, if_neg h]
    iintro ⟨#HI, ⟨Ho, Hd, Hr⟩, Hs⟩
    ihave HC := (invs_send (X m) K c o) $$ HI
    imod (Rounds.cell_open ER (talkRd (X m)) (Set.mem_univ _)) $$ [HC Ho Hs] with ⟨Ha, #Hre⟩
    · isplitl [HC]; · iexact HC
      isplitl [Ho]; · iexact Ho
      iexact Hs
    imodintro
    isplitl [Ha]; · iexact Ha
    isplitl [Hd]; · iexact Hd
    isplitr; · iexact Hre
    iexact Hr

theorem open_recv (K : GSem nD τ sig → ℕ) (o : Dev nD) :
    iprop(invs (X m) K ∗ (RecvRight (F := F) c o ∗ semVal (recvCell c (c - o)) 0))
      ⊢ (|={Set.univ}=> iprop(PreRecv (F := F) c o ∗ reached ER (recvCell c (c - o)) 0) : sProp 𝕄) := by
  unfold RecvRight PreRecv
  iintro ⟨#HI, ⟨Ho, Hr⟩, Hs⟩
  ihave HC := (invs_recv (X m) K c (c - o)) $$ HI
  imod (Rounds.cell_open ER (talkRd (X m)) (Set.mem_univ _)) $$ [HC Ho Hs] with ⟨Ha, #Hre⟩
  · isplitl [HC]; · iexact HC
    isplitl [Ho]; · iexact Ho
    iexact Hs
  imodintro
  isplitl [Ha Hr]
  · isplitl [Ha]; · iexact Ha
    iexact Hr
  iexact Hre

theorem open_sends (K : GSem nD τ sig → ℕ) :
    iprop(invs (X m) K ∗ (bigSep Finset.univ (SendRight (F := F) c) ∗ bigSep Finset.univ fun o => semVal (sendCell c o) 0))
      ⊢ (|={Set.univ}=> bigSep Finset.univ (PreSt (F := F) c) : sProp 𝕄) := by
  rw [← BI.bigSep_sep']
  exact (BI.bigSep_with_persistent (R := invs (X m) K) fun o _ => open_send m c K o).trans (BI.bigSep_fupd _ _)

theorem open_recvs (K : GSem nD τ sig → ℕ) :
    iprop(invs (X m) K ∗ (bigSep Finset.univ (RecvRight (F := F) c) ∗ bigSep Finset.univ fun s => semVal (recvCell c s) 0))
      ⊢ (|={Set.univ}=> iprop(bigSep Finset.univ (PreRecv (F := F) c) ∗ bigSep Finset.univ fun s => reached ER (recvCell c s) 0) : sProp 𝕄) := by
  rw [BI.bigSep_univ_equiv (Equiv.subLeft (G := Fin 16) c) (fun s : Dev nD => (semVal (recvCell c s) 0 : sProp 𝕄)),
    BI.bigSep_univ_equiv (Equiv.subLeft (G := Fin 16) c) (fun s : Dev nD => (reached ER (recvCell c s) 0 : sProp 𝕄)), ← BI.bigSep_sep', ← BI.bigSep_sep']
  exact (BI.bigSep_with_persistent (R := invs (X m) K) fun o _ => open_recv m c K o).trans (BI.bigSep_fupd _ _)

/-! ## What enters the invariant -/

/-- A barrier unit to be given, but for the slot that goes with it. -/
def GiveItem (o : Dev nD) : sProp 𝕄 :=
  if o = 0 then reached ER (recvCell c c) 0
  else iprop((dutyTok ER (barCell (c + o)) 0 c ∗ reached ER (barCell (c + o)) 0) ∗ reached ER (recvCell c (c + o)) 0)

theorem give_item (o : Dev nD) : iprop(GiveRight (F := F) c o ∗ reached ER (recvCell c (c + o)) 0) ⊢ GiveItem (F := F) c o := by
  unfold GiveRight GiveItem
  by_cases h : o = 0
  · subst h
    rw [if_pos rfl, if_pos rfl, show c + 0 = c from add_zero (M := Fin 16) c]
    iintro ⟨-, H⟩; iexact H
  · rw [if_neg h, if_neg h]

theorem give : iprop(bigSep Finset.univ (GiveRight (F := F) c) ∗ bigSep Finset.univ fun s => reached ER (recvCell c s) 0)
    ⊢ (bigSep Finset.univ (GiveItem (F := F) c) : sProp 𝕄) := by
  rw [BI.bigSep_univ_equiv (Equiv.addLeft (G := Fin 16) c) (fun s : Dev nD => (reached ER (recvCell c s) 0 : sProp 𝕄)), ← BI.bigSep_sep']
  exact BI.bigSep_mono fun o _ => give_item c o

def Entry : sProp 𝕄 :=
  iprop((∃ K, invs (X m) K) ∗ levAts L lv ∗ (cred (tallyAt (barCell c) () 15) ∗ atPos ER (barCell c) 0 ∅ 0)
    ∗ bigSep Finset.univ (GiveItem (F := F) c) ∗ bigSep Finset.univ (PreSt (F := F) c) ∗ bigSep Finset.univ (PreRecv (F := F) c)
    ∗ dutyTok ER (recvCell c c) 0 0)

theorem enter : iprop(Start m c ∗ Pipeline.ownSems0 osem c ∗ levAts L lv) ⊢ (|={Set.univ}=> Entry m c : sProp 𝕄) := by
  rw [ownSems_eq]
  unfold Start Entry
  iintro ⟨⟨⟨%K, #HI⟩, HB, HG, HS, HR, Ht⟩, ⟨Hs, Hr⟩, #Hlev⟩
  imod (open_sends m c K) $$ [HS Hs] with HS
  · isplitr; · iexact HI
    isplitl [HS]; · iexact HS
    iexact Hs
  imod (open_recvs m c K) $$ [HR Hr] with ⟨HR, Hre⟩
  · isplitr; · iexact HI
    isplitl [HR]; · iexact HR
    iexact Hr
  ihave HG := (give (F := F) c) $$ [HG Hre]
  · isplitl [HG]; · iexact HG
    iexact Hre
  imodintro
  isplitr; · iexists K; iexact HI
  isplitr; · iexact Hlev
  isplitl [HB]; · iexact HB
  isplitl [HG]; · iexact HG
  isplitl [HS]; · iexact HS
  isplitl [HR]; · iexact HR
  iexact Ht

end Cert.KernelIdeal.Talk

end

end
-- ==== Proof.Segment.lean ====
/-
# The region as a segment of the program

The kernel's region, entered with what the host part leaves and what the launch deals, left with the arrays as the
pipeline leaves them.
-/
module

public import proofs.«01_k».proof.Proof.Region

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Into the invariant -/

theorem only_zero (A : sProp 𝕄) : (bigSep Finset.univ fun o : Dev nD => if o = 0 then A else iprop(emp)) ⊢ A := by
  rw [at_zero, if_pos rfl]
  iintro ⟨H, -⟩
  iexact H

/-- A place of the receive buffer goes with the unit for its sender; the own place stays. -/
theorem unit_item (f : Vec F S16x256x256 .bf16) (o : Dev nD) : iprop(GiveItem (F := F) c o ∗ slotPts c (c + o) f)
    ⊢ iprop(BarSt (F := F) c 1 o ∗ if o = 0 then iprop(reached ER (recvCell c c) 0 ∗ slotAny c c) else iprop(emp)) := by
  unfold GiveItem BarSt BarItem
  by_cases h : o = 0
  · subst h
    rw [if_pos rfl, if_pos (.inl rfl), if_pos rfl, show c + 0 = c from add_zero (M := Fin 16) c]
    iintro ⟨Hr, Hs⟩
    isplitr; · iempintro
    isplitl [Hr]; · iexact Hr
    iexists f; iexact Hs
  · have hv : ¬ (o = 0 ∨ o.val < 1) := by
      rintro (e | e)
      · exact h e
      · exact h (Fin.ext (by show o.val = 0; omega))
    rw [if_neg h, if_neg hv, if_neg h]
    iintro ⟨⟨⟨Hd, Hb⟩, Hr⟩, Hs⟩
    isplitl
    · isplitl [Hd]; · iexact Hd
      isplitl [Hb]; · iexact Hb
      isplitl [Hs]; · iexists f; iexact Hs
      iexact Hr
    iempintro

theorem units (f : Vec F S16x256x256 .bf16) :
    iprop(bigSep Finset.univ (GiveItem (F := F) c) ∗ ((c : Thread nD τ).loc cc0_scratch1) ↦{fullShare} f)
      ⊢ iprop(bigSep Finset.univ (BarSt (F := F) c 1) ∗ (reached ER (recvCell c c) 0 ∗ slotAny c c)) := by
  rw [slots_eq, BI.bigSep_univ_equiv (Equiv.addLeft (G := Fin 16) c) (fun s : Dev nD => slotPts c s f), ← BI.bigSep_sep']
  refine (BI.bigSep_mono fun o _ => unit_item c f o).trans ?_
  rw [BI.bigSep_sep']
  exact sep_mono .rfl (only_zero _)

theorem into : iprop(Entry m c ∗ Pipeline.prefHeld (pcfgs (F := F) 0).pre c (fun _ => fullShare) (adm (F := F) c 0).1
    ∗ Pipeline.scopedRest (pcfgs (F := F) 0).spec c) ⊢ Inv m c 0 := by
  rw [show (Pipeline.scopedRest (pcfgs (F := F) 0).spec c : sProp 𝕄) = _ from scopedRest0_eq c]
  unfold Entry Inv
  rw [show State m c 0 = Before (F := F) c from rfl]
  unfold Before
  iintro ⟨⟨HI, Hl, ⟨Hc, Ha⟩, Hg, Hp, Hr, Ht⟩, -, ⟨Hx, ⟨%f, Hs⟩⟩⟩
  ihave H := (units (F := F) c f) $$ [Hg Hs]
  · isplitl [Hg]; · iexact Hg
    iexact Hs
  icases H with ⟨Hb, Hre, Hs⟩
  isplitl [HI]; · iexact HI
  isplitl [Hl]; · iexact Hl
  isplitl [Hb]; · iexact Hb
  isplitl [Hc]; · iexact Hc
  isplitl [Ha]; · iexact Ha
  isplitl [Hp]; · iexact Hp
  isplitl [Hr]; · iexact Hr
  isplitl [Ht]; · iexact Ht
  isplitl [Hre]; · iexact Hre
  isplitl [Hs]; · iexact Hs
  iexact Hx

/-! ## Out of it -/

/-- At the end every distance gives back two counters, a place and a row block. -/
theorem end_item (o : Dev nD) : iprop(FinSt (X m) c 16 o ∗ RecvSt (X m) c 16 o)
    ⊢ iprop((semVal (sendCell c o) 0 ∗ semVal (recvCell c (c - o)) 0) ∗ (xPts c (c + o) (xb (X m) c) ∗ slotPts c (c - o) (rb (X m) c))) := by
  have ho : o.val < 16 := o.isLt
  unfold FinSt RecvSt GotItem BackItem
  rw [if_pos ho, if_pos ho]
  by_cases h : o = 0
  · subst h
    rw [if_pos rfl, if_pos rfl, show c + 0 = c from add_zero (M := Fin 16) c]
    iintro ⟨H1, H2, H3, H4⟩
    isplitl [H1 H2]
    · isplitl [H1]; · iexact H1
      iexact H2
    isplitl [H4]; · iexact H4
    iexact H3
  · rw [if_neg h, if_neg h]
    iintro ⟨⟨H1, H4⟩, H2, H3, -⟩
    isplitl [H1 H2]
    · isplitl [H1]; · iexact H1
      iexact H2
    isplitl [H4]; · iexact H4
    iexact H3

theorem out_of : Inv m c 16 ⊢ iprop(semVal (barCell c) 0 ∗ Pipeline.ownSems0 osem c ∗ Pipeline.scopedRest (pcfgs (F := F) 0).spec c) := by
  have h : iprop(bigSep Finset.univ (FinSt (X m) c 16) ∗ bigSep Finset.univ (RecvSt (X m) c 16))
      ⊢ iprop(((bigSep Finset.univ fun o : Dev nD => semVal (sendCell c o) 0) ∗ bigSep Finset.univ fun s : Dev nD => semVal (recvCell c s) 0)
        ∗ (((c : Thread nD τ).loc cc0_scratch0) ↦{fullShare} xb (X m) c) ∗ (((c : Thread nD τ).loc cc0_scratch1) ↦{fullShare} rb (X m) c)) := by
    rw [BI.bigSep_univ_equiv (Equiv.subLeft (G := Fin 16) c) (fun s : Dev nD => (semVal (recvCell c s) 0 : sProp 𝕄)), rows_eq, slots_behind,
      ← BI.bigSep_sep', ← BI.bigSep_sep', ← BI.bigSep_sep', ← BI.bigSep_sep']
    exact BI.bigSep_mono fun o _ => end_item m c o
  rw [show (Pipeline.scopedRest (pcfgs (F := F) 0).spec c : sProp 𝕄) = _ from scopedRest0_eq c, ownSems_eq]
  unfold Inv
  rw [show State m c 16 = Done (X m) c from rfl]
  unfold Done
  iintro ⟨-, -, HF, HR, HB⟩
  ihave H := h $$ [HF HR]
  · isplitl [HF]; · iexact HF
    iexact HR
  icases H with ⟨HS, Hx, Hs⟩
  isplitl [HB]; · iexact HB
  isplitl [HS]; · iexact HS
  isplitl [Hx]; · iexists _; iexact Hx
  iexists _; iexact Hs

/-! ## The region -/

/-- What a device holds besides its buffers when the host part runs. -/
def E (_ : Fin 2) (c : Dev nD) : sProp 𝕄 := iprop(Start m c ∗ ∃ W : Waits sig Unit, owes (c : Thread nD τ) (O₀ c) W)
/-- What it holds when the program is over: the arrays as the pipeline leaves them, the barrier counter at zero. -/
def Over (c : Dev nD) : sProp 𝕄 :=
  iprop((dats m 0 c).arrays ((dats m 0 c).arrAt · (pipe (F := F) c).N) ∗ semVal (barCell c) 0)

theorem share_full (w : Fin 3) : (dats m 0 c).share w = fullShare := by unfold Pipeline.Dat.share; split <;> rfl

theorem held_arrays : (StableHlo.held (c : Thread nD τ) (Pipeline.ucRefs τ sig) (V1 m c) : sProp 𝕄)
    ⊢ iprop((dats m 0 c).arrays ((dats m 0 c).arrAt · 0)
        ∗ Pipeline.prefHeld (pcfgs (F := F) 0).pre c (fun _ => fullShare) (adm (F := F) c 0).1) := by
  rw [← Pipeline.unscopedBufs_held (Ix := Unit) (Name := ℕ) (U := UU) (Lvl := ℕ) c (V1 m c)]
  refine (Pipeline.PerCore.arrays_of_unscopedBufs (pcfgs (F := F)) adm (dats m) (p := 0) winFacts0 arr_whole0 c (share_full m c) _ ?_).trans ?_
  · intro w
    fin_cases w
    · exact (V1_of m c main_arg0 (by decide)).symm
    · exact (V1_of m c main_arg1 (by decide)).symm
    · exact (V1_of m c main_v6 (by decide)).symm
  · refine sep_mono .rfl ?_
    rw [Pipeline.unscopedRest_split (pre := (pcfgs (F := F) 0).pre) preFacts0]
    refine sep_elim_left.trans (Entails.of_eq (congrArg _ (funext fun k => ?_)))
    have hk : k = 0 := Subsingleton.elim k (0 : Fin 1)
    subst hk
    exact V1_table m c

theorem waits_low (t : Fin (grid0.N + 1)) (sm : SemLoc sig) (h : semLv c sm = 0) :
    (levAts L lv : sProp 𝕄) ⊢ MayWait (c : Thread nD τ) sm () (OwesAt c t.val) := by
  unfold OwesAt
  split
  · exact (mayWait_low c sm h).1
  · exact (mayWait_low c sm h).2 _ _

theorem stage_low : ∀ (c : Fin 16) (w : Fin 3) (s : Fin (spec0 w).nbuf), semLv c (.dma ((spec0 w).sem s)) = 0 := by
  intro c w s
  have h : ∀ (w : Fin 3) (s : Fin (spec0 w).nbuf), ¬ 20 ≤ (((spec0 w).sem s).val : ℕ) := by decide
  exact dif_neg (h w s)

/-- The region. -/
def region : Pipeline.PerCore.RegionSeg (pcfgs (F := F)) adm (dats m) () (defs₀ (F := F)) 𝒱₀ L lv 0 where
  win := winFacts0.to₀
  block_pos := block_pos0
  stage_whole := stage_whole0
  K := Fin 16 ⊕ Fin 16
  osem := osem
  ho := ownFacts
  hbody c := (body_obligation m c).loose
  hwaits c := Pipeline.PerCore.cellsWaits_intro _ (dats m) () 0 c fun w s t => waits_low c t _ (stage_low c w s)
  pre c := iprop(StableHlo.held (c : Thread nD τ) (Pipeline.ucRefs τ sig) (V1 m c) ∗ E m 0 c)
  post c := iprop(Over m c ∗ ∃ W : Waits sig Unit, owes (c : Thread nD τ) 0 W)
  X c := Entry m c
  Y c := semVal (barCell c) 0
  Z _ := iprop(emp)
  hentry c := by
    unfold E
    iintro ⟨⟨Hh, HS, ⟨%W, HO⟩⟩, Hown, Hlev⟩
    ihave Ha := (held_arrays m c) $$ Hh
    icases Ha with ⟨Ha, Hp⟩
    imod (enter m c) $$ [HS Hown Hlev] with HE
    · isplitl [HS]; · iexact HS
      isplitl [Hown]; · iexact Hown
      iexact Hlev
    imodintro
    isplitl [Ha]; · iexact Ha
    isplitl [Hp]; · iexact Hp
    isplitl [HO]
    · unfold Pipeline.Dat.owesAt Pipeline.owesWithin
      iexists W
      isplitr
      · ipureintro; exact fun _ _ => Or.inl trivial
      iexact HO
    isplitl [HE]; · iexact HE
    iempintro
  hin c := into m c
  hout c := out_of m c
  hexit c := by
    unfold Over
    iintro ⟨Ha, HO, HY, -⟩
    imodintro
    isplitl [Ha HY]
    · isplitl [Ha]; · iexact Ha
      iexact HY
    unfold Pipeline.Dat.owesAt Pipeline.owesWithin
    icases HO with ⟨%W, -, HO⟩
    iexists W
    have e : (dats m 0 c).owed (Fin.last (pipe (F := F) c).N) = 0 := by
      show Ow c 16 1 = 0
      rw [show (16 : ℕ) = 15 + 1 from rfl, Ow_next, Ow_last]
    rw [e]
    iexact HO

end Cert.KernelIdeal.Talk

end

end
-- ==== Proof.Fund.lean ====
/-
# What the launch deals

The cells the launch funds, the tokens of their duties, each listed with the device that holds it, and the credit each
device is dealt; together they are what a device starts with (`Start`).
-/
module

public import proofs.«01_k».proof.Proof.Segment

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The cells -/

/-- Whether a semaphore is the barrier's, one of the send or one of the receive semaphores. -/
def kind : SemLoc sig → ℕ
  | .reg _ => 0
  | .dma k => if 20 ≤ k.val then 2 else 1
theorem kind_send (o : Dev nD) : kind (.dma (sendS o)) = 1 := by
  have h : o.val < 16 := o.isLt
  exact if_neg (show ¬ 20 ≤ 4 + o.val by omega)
theorem kind_recv (s : Dev nD) : kind (.dma (recvS s)) = 2 := if_pos (show 20 ≤ 20 + s.val by omega)

def barEmb : Dev nD ↪ GSem nD τ sig := ⟨fun c => barCell c, fun _ _ h => congrArg (fun g : GSem nD τ sig => g.1.1) h⟩

/-- The cells device `c` opens inside its region, two per distance. -/
def inner : Dev nD × Dev nD × Fin 2 → GSem nD τ sig
  | (c, o, 0) => sendCell c o
  | (c, o, 1) => recvCell c (c - o)
theorem inner_kind : ∀ p, kind (inner p).2 = p.2.2.val + 1
  | (_, o, 0) => kind_send o
  | (c, o, 1) => kind_recv (c - o)
theorem inner_inj : Function.Injective inner := by
  rintro ⟨c, o, k⟩ ⟨c', o', k'⟩ h
  have hk : k = k' := by
    have e := congrArg (fun g : GSem nD τ sig => kind g.2) h
    simp only [inner_kind] at e
    exact Fin.ext (by omega)
  subst hk
  match k, h with
  | 0, h =>
    have h1 : c = c' := congrArg (fun g : GSem nD τ sig => g.1.1) h
    have h2 := congrArg (fun g : GSem nD τ sig => g.2) h
    have h3 : o = o' := sendS_inj (by injection h2)
    rw [h1, h3]
  | 1, h =>
    obtain ⟨h1, h2⟩ := recvCell_inj h
    subst h1
    have h3 : o = o' := by rw [← dev_sub_sub c o, h2, dev_sub_sub]
    rw [h3]

abbrev barCells : Finset (GSem nD τ sig) := Finset.univ.map barEmb
abbrev innerCells : Finset (GSem nD τ sig) := Finset.univ.map ⟨inner, inner_inj⟩

theorem cells_disjoint : Disjoint (barCells : Finset (GSem nD τ sig)) innerCells := by
  rw [Finset.disjoint_left]
  rintro g h₁ h₂
  obtain ⟨c, -, rfl⟩ := Finset.mem_map.mp h₁
  obtain ⟨p, -, h⟩ := Finset.mem_map.mp h₂
  have e := congrArg (fun g : GSem nD τ sig => kind g.2) h
  have : p.2.2.val + 1 = 0 := (inner_kind p).symm.trans e
  omega

theorem bar_mem : barCell c ∈ (barCells ∪ innerCells : Finset (GSem nD τ sig)) :=
  Finset.mem_union_left _ (Finset.mem_map_of_mem barEmb (Finset.mem_univ c))
theorem inner_mem (p : Dev nD × Dev nD × Fin 2) : inner p ∈ (barCells ∪ innerCells : Finset (GSem nD τ sig)) :=
  Finset.mem_union_right _ (Finset.mem_map_of_mem ⟨inner, inner_inj⟩ (Finset.mem_univ p))
theorem send_mem (o : Dev nD) : sendCell c o ∈ (barCells ∪ innerCells : Finset (GSem nD τ sig)) := inner_mem (c, o, 0)
theorem recv_mem (d s : Dev nD) : recvCell d s ∈ (barCells ∪ innerCells : Finset (GSem nD τ sig)) := by
  have h := inner_mem (d, d - s, 1)
  rwa [show inner (d, d - s, 1) = recvCell d s from congrArg (recvCell d) (dev_sub_sub d s)] at h

/-! ## The tokens -/

/-- The tokens device `c` spends, three per distance. -/
def tok : Dev nD × Dev nD × Fin 3 → GSem nD τ sig × ℕ × Dev nD
  | (c, o, 0) => (barCell (c + o), 0, c)
  | (c, o, 1) => (sendCell c o, 0, 0)
  | (c, o, 2) => (recvCell (c + o) c, 0, 0)
theorem tok_kind : ∀ p, kind (tok p).1.2 = p.2.2.val
  | (_, _, 0) => rfl
  | (_, o, 1) => kind_send o
  | (c, _, 2) => kind_recv c
theorem tok_inj : Function.Injective tok := by
  rintro ⟨c, o, k⟩ ⟨c', o', k'⟩ h
  have hk : k = k' := by
    have e := congrArg (fun g : GSem nD τ sig × ℕ × Dev nD => kind g.1.2) h
    simp only [tok_kind] at e
    exact Fin.ext e
  subst hk
  match k, h with
  | 0, h =>
    have h1 : c + o = c' + o' := congrArg (fun g : GSem nD τ sig × ℕ × Dev nD => g.1.1.1) h
    have h2 : c = c' := congrArg (fun g : GSem nD τ sig × ℕ × Dev nD => g.2.2) h
    subst h2
    rw [show o = o' from add_left_cancel (G := Fin 16) h1]
  | 1, h =>
    have h1 : c = c' := congrArg (fun g : GSem nD τ sig × ℕ × Dev nD => g.1.1.1) h
    have h2 := congrArg (fun g : GSem nD τ sig × ℕ × Dev nD => g.1.2) h
    have h3 : o = o' := sendS_inj (by injection h2)
    rw [h1, h3]
  | 2, h =>
    obtain ⟨h1, h2⟩ := recvCell_inj (congrArg (fun g : GSem nD τ sig × ℕ × Dev nD => g.1) h)
    subst h2
    rw [show o = o' from add_left_cancel (G := Fin 16) h1]

abbrev toks : Finset (GSem nD τ sig × ℕ × Dev nD) := Finset.univ.map ⟨tok, tok_inj⟩

/-- What device `c` opens and spends at distance `o`. -/
def Rights (o : Dev nD) : sProp 𝕄 := iprop(openTok ER (sendCell c o) ∗ openTok ER (recvCell c (c - o)))
def Tokens (o : Dev nD) : sProp 𝕄 :=
  iprop(dutyTok ER (barCell (c + o)) 0 c ∗ dutyTok ER (sendCell c o) 0 0 ∗ dutyTok ER (recvCell (c + o) c) 0 0)

theorem rights_eq : (bigSep innerCells fun g => (openTok ER g : sProp 𝕄)) = bigSep Finset.univ fun c : Dev nD => bigSep Finset.univ (Rights (F := F) c) := by
  rw [BI.bigSep_map, BI.bigSep_univ_prod]
  refine BI.bigSep_congr fun c _ => ?_
  rw [BI.bigSep_univ_prod]
  exact BI.bigSep_congr fun o _ => BI.bigSep_fin_two (fun k : Fin 2 => (openTok ER (inner (c, o, k)) : sProp 𝕄))
theorem tokens_eq : (bigSep toks fun x => (dutyTok ER x.1 x.2.1 x.2.2 : sProp 𝕄)) = bigSep Finset.univ fun c : Dev nD => bigSep Finset.univ (Tokens (F := F) c) := by
  rw [BI.bigSep_map, BI.bigSep_univ_prod]
  refine BI.bigSep_congr fun c _ => ?_
  rw [BI.bigSep_univ_prod]
  exact BI.bigSep_congr fun o _ => bigSep_W0 (fun k : Fin 3 => (dutyTok ER (tok (c, o, k)).1 (tok (c, o, k)).2.1 (tok (c, o, k)).2.2 : sProp 𝕄))

/-! ## The credit -/

theorem sum_at (T : Finset (Dev nD)) (cell : Dev nD → GSem nD τ sig) (k : ℕ) (g : GSem nD τ sig) :
    (∑ o ∈ T, (tallyAt (cell o) () k : CellTallies nD τ sig Unit)) g () = ∑ o ∈ T, if g = cell o then k else 0 := by
  rw [Finset.sum_apply, Finsupp.finset_sum_apply]
  refine Finset.sum_congr rfl fun o _ => ?_
  rw [tallyAt_apply]
  exact if_congr (and_iff_left rfl) rfl rfl

theorem recv_ne_bar (d s c : Dev nD) : recvCell d s ≠ barCell c := fun h => by
  have := congrArg (fun g : GSem nD τ sig => kind g.2) h
  simp only [kind_recv] at this
  exact absurd this (by decide)

theorem O₀_at (d : Dev nD) (g : GSem nD τ sig) : O₀ d g () = (∑ o ∈ unsent 0 1, if g = recvCell (d + o) d then N else 0)
    + ∑ o ∈ unsig 1, if g = barCell (d + o) then 1 else 0 := by
  unfold O₀ BarOw Ow
  rw [Pi.add_apply, Finsupp.add_apply, sum_at, sum_at]

theorem owed_bar (d : Dev nD) : O₀ d (barCell c) () = if d = c then 0 else 1 := by
  have hm : ∀ d c : Fin 16, c - d ∈ unsig 1 ↔ d ≠ c := by decide +kernel
  rw [O₀_at, Finset.sum_eq_zero fun o _ => if_neg fun h => recv_ne_bar _ _ _ h.symm, Nat.zero_add,
    Finset.sum_congr rfl fun o _ => if_congr (show barCell c = barCell (d + o) ↔ o = c - d from
      ⟨fun h => by
        have e : c = d + o := congrArg (fun g : GSem nD τ sig => g.1.1) h
        rw [e, dev_add_sub], fun h => by rw [h, dev_sub_add]⟩) rfl rfl, Finset.sum_ite_eq']
  by_cases h : d = c
  · rw [if_pos h, if_neg fun hn => (hm d c).mp hn h]
  · rw [if_neg h, if_pos ((hm d c).mpr h)]

theorem owed_recv (d o : Dev nD) (ho : o ≠ 0) : O₀ d (recvCell c (c - o)) () = if d = c - o then N else 0 := by
  rw [O₀_at, Finset.sum_eq_zero (s := unsig 1) fun o' _ => if_neg fun h => recv_ne_bar _ _ _ h, Nat.add_zero]
  by_cases h : d = c - o
  · subst h
    have e : c - o + o = c := sub_add_cancel (G := Fin 16) c o
    rw [if_pos rfl, Finset.sum_congr rfl fun p _ => if_congr (show recvCell c (c - o) = recvCell (c - o + p) (c - o) ↔ p = o from
      ⟨fun h => add_left_cancel (G := Fin 16) (((recvCell_inj h).1.symm).trans e.symm), fun h => by rw [h, e]⟩) rfl rfl, Finset.sum_ite_eq']
    have hv : o.val ≠ 0 := fun h => ho (Fin.ext h)
    exact if_pos (Finset.mem_filter.mpr ⟨Finset.mem_univ _, ho, by omega⟩)
  · rw [if_neg h]
    exact Finset.sum_eq_zero fun p _ => if_neg fun e => h (recvCell_inj e).2.symm

theorem launch_bar : tallyOn (barCell c) (launchCredit (Pipeline.owing O₀) 0 (barCell c)) = (tallyAt (barCell c) () 15 : CellTallies nD τ sig Unit) := by
  have hs : ∀ c : Fin 16, (∑ d : Fin 16, if d = c then 0 else 1) = 15 := by decide +kernel
  unfold tallyAt; refine congrArg _ (Finsupp.ext fun u => ?_); cases u
  rw [Pipeline.launchCredit_owing, Finsupp.single_eq_same, Finset.sum_congr rfl fun d _ => owed_bar c d]
  exact hs c
theorem launch_recv (o : Dev nD) (ho : o ≠ 0) :
    tallyOn (recvCell c (c - o)) (launchCredit (Pipeline.owing O₀) 0 (recvCell c (c - o))) = (tallyAt (recvCell c (c - o)) () N : CellTallies nD τ sig Unit) := by
  unfold tallyAt; refine congrArg _ (Finsupp.ext fun u => ?_); cases u
  rw [Pipeline.launchCredit_owing, Finsupp.single_eq_same, Finset.sum_congr rfl fun d _ => owed_recv c d o ho, Finset.sum_ite_eq' Finset.univ (c - o) fun _ => N,
    if_pos (Finset.mem_univ _)]

/-- The credit of the block awaited at distance `o`. -/
def Credit (o : Dev nD) : sProp 𝕄 := if o = 0 then iprop(emp) else iprop(cred (tallyAt (recvCell c (c - o)) () N))

def recvEmb : Dev nD ↪ SemLoc sig := ⟨fun o => .dma (recvS (c - o)), fun o o' h => by
  have h3 := recvS_inj (by injection h : recvS (c - o) = recvS (c - o'))
  rw [← dev_sub_sub c o, h3, dev_sub_sub]⟩

theorem credit_item (o : Dev nD) : (cred (tallyOn (recvCell c (c - o)) (launchCredit (Pipeline.owing O₀) 0 (recvCell c (c - o)))) : sProp 𝕄) ⊢ Credit c o := by
  unfold Credit
  by_cases h : o = 0
  · rw [if_pos h]; iintro -; iempintro
  · rw [if_neg h, launch_recv c o h]

theorem credits : (Pipeline.launchCred O₀ c : sProp 𝕄) ⊢ iprop(cred (tallyAt (barCell c) () 15) ∗ bigSep Finset.univ (Credit (F := F) c)) := by
  unfold Pipeline.launchCred
  rw [BI.bigSep_univ_at _ (SemLoc.reg barS), launch_bar]
  refine sep_mono_right ?_
  have hsub : (Finset.univ.map (recvEmb c)) ⊆ (Finset.univ.erase (SemLoc.reg barS) : Finset (SemLoc sig)) := by
    intro sm h
    obtain ⟨o, -, rfl⟩ := Finset.mem_map.mp h
    exact Finset.mem_erase.mpr ⟨fun e => by injection e, Finset.mem_univ _⟩
  refine (BI.bigSep_subset hsub).trans ?_
  rw [BI.bigSep_map]
  exact BI.bigSep_mono fun o _ => credit_item c o

/-! ## The start of a device -/

/-- What every device may consult: all the invariants, and that every barrier cell is in use. -/
def Records (κ : GSem nD τ sig → ℕ) : sProp 𝕄 :=
  iprop((bigSep (barCells ∪ innerCells) fun g => cellInv ER (talkRd (X m)) (κ g) g) ∗ bigSep barCells fun g => reached ER g 0)
instance Records_persistent (κ : GSem nD τ sig → ℕ) : BI.Persistent (Records m κ) := by unfold Records; infer_instance

theorem all_invs (κ : GSem nD τ sig → ℕ) : (bigSep (barCells ∪ innerCells) fun g => cellInv ER (talkRd (X m)) (κ g) g : sProp 𝕄) ⊢ invs (X m) κ := by
  have h1 : (bigSep (barCells ∪ innerCells) fun g => cellInv ER (talkRd (X m)) (κ g) g : sProp 𝕄)
      ⊢ bigSep Finset.univ fun c => cellInv ER (talkRd (X m)) (κ (barCell c)) (barCell c) :=
    BI.bigSep_intro_persistent fun c _ => BI.bigSep_elim (bar_mem c)
  have h2 : (bigSep (barCells ∪ innerCells) fun g => cellInv ER (talkRd (X m)) (κ g) g : sProp 𝕄)
      ⊢ bigSep Finset.univ fun d => bigSep Finset.univ fun s => cellInv ER (talkRd (X m)) (κ (recvCell d s)) (recvCell d s) :=
    BI.bigSep_intro_persistent fun d _ => BI.bigSep_intro_persistent fun s _ => BI.bigSep_elim (recv_mem d s)
  have h3 : (bigSep (barCells ∪ innerCells) fun g => cellInv ER (talkRd (X m)) (κ g) g : sProp 𝕄)
      ⊢ bigSep Finset.univ fun c => bigSep Finset.univ fun o => cellInv ER (talkRd (X m)) (κ (sendCell c o)) (sendCell c o) :=
    BI.bigSep_intro_persistent fun c _ => BI.bigSep_intro_persistent fun o _ => BI.bigSep_elim (send_mem c o)
  unfold invs
  iintro #H
  isplitr; · iapply h1; iexact H
  isplitr; · iapply h2; iexact H
  iapply h3; iexact H

theorem start_item (o : Dev nD) : iprop((bigSep barCells fun g => reached ER g 0) ∗ (Rights (F := F) c o ∗ Tokens (F := F) c o ∗ Credit (F := F) c o))
    ⊢ iprop(GiveRight (F := F) c o ∗ SendRight (F := F) c o ∗ RecvRight (F := F) c o
      ∗ if o = 0 then dutyTok ER (recvCell c c) 0 0 else iprop(emp)) := by
  unfold Rights Tokens Credit GiveRight SendRight RecvRight
  by_cases h : o = 0
  · subst h
    simp only [if_true]; rw [show c + 0 = c from add_zero (M := Fin 16) c]
    iintro ⟨-, ⟨Hs, Hr⟩, ⟨-, -, Ht⟩, -⟩
    isplitr; · iempintro
    isplitl [Hs]
    · isplitl [Hs]; · iexact Hs
      iempintro
    isplitl [Hr]
    · isplitl [Hr]; · iexact Hr
      iempintro
    iexact Ht
  · simp only [if_neg h]
    have hre : (bigSep barCells fun g => (reached ER g 0 : sProp 𝕄)) ⊢ reached ER (barCell (c + o)) 0 :=
      BI.bigSep_elim (Finset.mem_map_of_mem barEmb (Finset.mem_univ (c + o)))
    iintro ⟨#HR, ⟨Hs, Hr⟩, ⟨Hb, Hts, Htr⟩, Hc⟩
    isplitl [Hb]
    · isplitl [Hb]; · iexact Hb
      iapply hre; iexact HR
    isplitl [Hs Hts Htr]
    · isplitl [Hs]; · iexact Hs
      isplitl [Hts]; · iexact Hts
      iexact Htr
    isplitl [Hr Hc]
    · isplitl [Hr]; · iexact Hr
      iexact Hc
    iempintro

/-- What the launch deals to device `c`, the records aside. -/
def Dealt : sProp 𝕄 :=
  iprop(atPos ER (barCell c) 0 ∅ 0 ∗ (bigSep Finset.univ (Rights (F := F) c) ∗ bigSep Finset.univ (Tokens (F := F) c) ∗ bigSep Finset.univ (Credit (F := F) c))
    ∗ cred (tallyAt (barCell c) () 15))

theorem start_intro (κ : GSem nD τ sig → ℕ) : iprop(Records m κ ∗ Dealt (F := F) c) ⊢ Start m c := by
  have h : iprop((bigSep barCells fun g => reached ER g 0)
      ∗ (bigSep Finset.univ (Rights (F := F) c) ∗ bigSep Finset.univ (Tokens (F := F) c) ∗ bigSep Finset.univ (Credit (F := F) c)))
      ⊢ iprop(bigSep Finset.univ (GiveRight (F := F) c) ∗ bigSep Finset.univ (SendRight (F := F) c) ∗ bigSep Finset.univ (RecvRight (F := F) c)
        ∗ bigSep Finset.univ fun o : Dev nD => if o = 0 then dutyTok ER (recvCell c c) 0 0 else iprop(emp)) := by
    rw [← BI.bigSep_sep', ← BI.bigSep_sep', ← BI.bigSep_sep', ← BI.bigSep_sep', ← BI.bigSep_sep']
    exact BI.bigSep_with_persistent fun o _ => start_item c o
  unfold Records Dealt Start
  iintro ⟨⟨#HI, #HR⟩, Ha, Hrtc, Hc⟩
  ihave H := h $$ [Hrtc]
  · isplitr; · iexact HR
    iexact Hrtc
  icases H with ⟨HG, HS, HV, Ht⟩
  isplitr
  · iexists κ
    iapply (all_invs m κ); iexact HI
  isplitl [Hc Ha]
  · isplitl [Hc]; · iexact Hc
    iexact Ha
  isplitl [HG]; · iexact HG
  isplitl [HS]; · iexact HS
  isplitl [HV]; · iexact HV
  iapply (only_zero (F := F) (dutyTok ER (recvCell c c) 0 0)); iexact Ht

end Cert.KernelIdeal.Talk

end

end
-- ==== Proof.Run.lean ====
/-
# The run

The launch is regrouped into what every device starts with, the program is the host part followed by the region, and what
the region leaves is read off the final memory: the operands unchanged, the result as accumulated, every counter at zero.
-/
module

public import proofs.«01_k».proof.Proof.Fund
public import proofs.«01_k».proof.Proof.Gen.KernelIdeal.Regions
public import Idealize.ShloMosaic.Adequacy

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (g : Dev nD → PrngReg)

/-! ## What the launch starts from -/

theorem cells_inj : Function.Injective (Pipeline.PerCore.cellOf (nD := nD) (τ := τ) (Pipeline.pinD (pcfgs (F := F)) adm)) :=
  Pipeline.PerCore.cellOf_injective _ (fun _ (p : Fin 1) => by
      obtain rfl := Subsingleton.elim p (0 : Fin 1)
      exact Pipeline.specSemsDistinct_of_nodup _ (semsDistinct 0))
    fun _ (p p' : Fin 1) h => absurd (Subsingleton.elim p p') h

/-- The launch's element: the pipeline's own, and that of the cells and tokens of the kernel. -/
def u₀ : UU :=
  (initOf (Pipeline.PerCore.cells (Pipeline.pinD (pcfgs (F := F)) adm) cells_inj) (Pipeline.PerCore.launchToks (Pipeline.pinD (pcfgs (F := F)) adm) cells_inj),
    launchOf barCells innerCells toks)

/-- The kernel's part, kept on device 0. -/
abbrev Ghost : sProp 𝕄 := BI.own (ER (launchOf barCells innerCells toks))
def Kept (c : Dev nD) : sProp 𝕄 := if c = 0 then Ghost else iprop(emp)

theorem kept_all : bigSep Finset.univ (Kept (F := F)) ⊢ Ghost := only_zero (F := F) Ghost
theorem all_kept : (Ghost : sProp 𝕄) ⊢ bigSep Finset.univ (Kept (F := F)) := by
  rw [at_zero, show (fun o : Dev nD => if o = 0 then iprop(emp) else Kept (F := F) o) = fun _ => (BI.emp : sProp 𝕄) from
    funext fun o => by unfold Kept; split <;> rfl, BI.bigSep_emp_const]
  unfold Kept
  rw [if_pos rfl]
  iintro H
  isplitl [H]; · iexact H
  iempintro

theorem unscoped_eq : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device starts with, and what of it does not come out of the kernel's part. -/
def First (c : Dev nD) : sProp 𝕄 := iprop(StableHlo.held (c : Thread nD τ) (Pipeline.ucRefs τ sig) (V0 m c) ∗ E m 0 c)
def Plain (c : Dev nD) : sProp 𝕄 :=
  iprop(StableHlo.held (c : Thread nD τ) (Pipeline.ucRefs τ sig) (V0 m c) ∗ owes (c : Thread nD τ) (O₀ c) ∅)
/-- What a device is dealt besides. -/
def Lot (c : Dev nD) : sProp 𝕄 :=
  iprop(atPos ER (barCell c) 0 ∅ 0 ∗ bigSep Finset.univ (Rights (F := F) c) ∗ bigSep Finset.univ (Tokens (F := F) c))
def Loan (c : Dev nD) : sProp 𝕄 := iprop(cred (tallyAt (barCell c) () 15) ∗ bigSep Finset.univ (Credit (F := F) c))

theorem first_intro (κ : GSem nD τ sig → ℕ) (c : Dev nD) : iprop(Records m κ ∗ (Lot (F := F) c ∗ Loan (F := F) c ∗ Plain m c)) ⊢ First m c := by
  unfold Lot Loan Plain First E
  iintro ⟨#HR, ⟨Ha, Hr, Ht⟩, ⟨Hb, Hc⟩, Hh, HO⟩
  isplitl [Hh]; · iexact Hh
  isplitr [HO]
  · iapply (start_intro m c κ)
    unfold Dealt
    isplitr; · iexact HR
    isplitl [Ha]; · iexact Ha
    isplitl [Hr Ht Hc]
    · isplitl [Hr]; · iexact Hr
      isplitl [Ht]; · iexact Ht
      iexact Hc
    iexact Hb
  · iexists ∅; iexact HO

theorem sort_one (c : Dev nD) :
    iprop(unscopedBufs c (fun b => m ((c : Thread nD τ).loc b)) ∗ unscopedSems0 c ∗ owes (c : Thread nD τ) (O₀ c) ∅ ∗ Pipeline.launchCred O₀ c
        ∗ prngReg c (g c) ∗ Kept (F := F) c)
      ⊢ iprop((Loan (F := F) c ∗ Plain m c) ∗ (semVal (barCell c) 0 ∗ Kept (F := F) c)) := by
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), unscopedSems0_eq]
  unfold Loan Plain
  iintro ⟨Hh, Hs, HO, Hc, -, HG⟩
  ihave Hc := (credits (F := F) c) $$ Hc
  icases Hc with ⟨Hb, Hc⟩
  isplitl [Hh HO Hb Hc]
  · isplitl [Hb Hc]
    · isplitl [Hb]; · iexact Hb
      iexact Hc
    isplitl [Hh]; · iexact Hh
    iexact HO
  isplitl [Hs]; · iexact Hs
  iexact HG

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (g c) ∗ Kept (F := F) c)) ∗ levAts L lv)
      ⊢ (|={Set.univ}=> bigSep Finset.univ (First m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (g c) ∗ Kept (F := F) c))
      ⊢ iprop((bigSep Finset.univ fun c : Dev nD => iprop(Loan (F := F) c ∗ Plain m c)) ∗ (bigSep barCells fun g => (semVal g 0 : sProp 𝕄)) ∗ bigSep Finset.univ (Kept (F := F))) := by
    rw [BI.bigSep_map (s := Finset.univ) barEmb, ← BI.bigSep_sep', ← BI.bigSep_sep']
    exact BI.bigSep_mono fun c _ => sort_one m g c
  have h2 : iprop((bigSep barCells fun g => (atPos ER g 0 ∅ 0 : sProp 𝕄)) ∗ (bigSep innerCells fun g => (openTok ER g : sProp 𝕄))
        ∗ bigSep toks fun x => (dutyTok ER x.1 x.2.1 x.2.2 : sProp 𝕄))
      ⊢ bigSep Finset.univ (Lot (F := F)) := by
    rw [BI.bigSep_map (s := Finset.univ) barEmb, rights_eq, tokens_eq, ← BI.bigSep_sep', ← BI.bigSep_sep']
    exact .rfl
  iintro ⟨H, -⟩
  ihave H := h1 $$ H
  icases H with ⟨HP, Hv, HG⟩
  ihave HG := (kept_all (F := F)) $$ HG
  imod (Rounds.fund_launch ER (talkRd (X m)) cells_disjoint (fun g _ h => h) toks) $$ [Hv HG] with ⟨%κ, -, #HI, #HR, Ha, Ho, Ht⟩
  · isplitl [Hv]; · iexact Hv
    iexact HG
  imodintro
  iapply (BI.bigSep_with_persistent (R := Records m κ) (Φ := fun c => iprop(Lot (F := F) c ∗ Loan (F := F) c ∗ Plain m c)) fun c _ => first_intro m κ c)
  isplitr
  · unfold Records
    isplitr; · iexact HI
    iexact HR
  rw [BI.bigSep_sep' (Φ := Lot (F := F))]
  isplitr [HP]
  · iapply h2
    isplitl [Ha]; · iexact Ha
    isplitl [Ho]; · iexact Ho
    iexact Ht
  iexact HP

/-! ## The run -/

abbrev parts (c : Dev nD) : List (Pipeline.PerCore.Seg (pcfgs (F := F)) adm (dats m) () (defs₀ (F := F)) 𝒱₀ L lv) :=
  [.host (seg0 m 𝒱₀ L lv (E m) c), .region (region m)]

/-- What is read off the final memory of device `c`. -/
def Seen (c : Dev nD) (s : MemSt nD τ sig (Elt F)) : Prop :=
  (∀ w : Fin 3, s.mem (((pcfgs (F := F) 0).spec w).arr.view.loc (c : Thread nD τ)) = (dats m 0 c).arrAt w (pipe (F := F) c).N) ∧ s.sem (barCell c) = 0

theorem arrays_seen (c : Dev nD) (s' : Phys nD τ sig (Elt F)) :
    (iprop(Over m c ∗ SI s') : sProp 𝕄) ⊢ |={Set.univ}=> iprop(⌜Seen m c s'.mem⌝ ∗ SI s') := by
  unfold Over
  iintro ⟨⟨Ha, Hb⟩, HSI⟩
  icombine HSI Hb gives %hb
  ihave H := (Pipeline.PerCore.arrays_read (pcfgs (F := F)) adm (dats m) (p := 0) arr_whole0 c (share_full m c) _ s') $$ [Ha HSI]
  · isplitl [Ha]; · iexact Ha
    iexact HSI
  icases H with ⟨%ha, HSI⟩
  imodintro
  isplitr
  · ipureintro
    exact ⟨ha, by simpa using hb⟩
  iexact HSI

/-- The last point. -/
abbrev lastPt : Fin grid0.N := ⟨15, by decide⟩

theorem whole_2 (c : Dev nD) : ((pipe (F := F) c).win 2).WholeAt lastPt := by
  refine ⟨?_, fun t h => ?_, fun a => ?_⟩
  · unfold Pipeline.Window.flush
    rw [show decide ((15 : ℕ) + 1 = (pipe (F := F) c).grid.N) = true from rfl, Bool.true_or]
    rfl
  · by_contra hne
    rw [flush_2 c t fun h' => hne (Fin.ext (by have h16 : grid0.N = 16 := rfl; show t.val = 15; omega))] at h
    exact absurd h Bool.false_ne_true
  · rw [index_2]
    fin_cases a <;> exact ⟨rfl, rfl⟩

theorem final_2 (c : Dev nD) : (dats m 0 c).arrAt 2 (pipe (F := F) c).N = acc m c 15 :=
  (dats m 0 c).arrAt_eq_of_after_last 2 lastPt (whole_2 c) (acc m c 15) (fun _ => rfl) (arr_whole0 2)

set_option backward.isDefEq.respectTransparency.types false in
/-- From any memory with the counters at zero, the program terminates on the sixteen devices; the operands end unchanged,
    the result holds what was accumulated, and every counter is at zero again. -/
theorem run_main : θ_run defs (onTc (τ := τ) (main (F := F))) ⟨m, fun _ => 0, g⟩ (fun r => (∀ c : Dev nD,
      r.2.mem ((c : Thread nD τ).loc main_v6) = acc m c 15
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.PerCore.θ_run_regions_kit_sems (pcfgs (F := F)) adm (dats m) () cells_inj EP defs₀ 𝒱₀ L lv m g main (parts m)
    (fun c Q => by
      rewrite [main_chain c, Pipeline.PerCore.Seg.run_eq_chain,
        show (parts m c).map Pipeline.PerCore.Seg.prog = [StableHlo.seq (hostOps0 c), Prog.lift (.customCall (Pipeline.entry 0) ())] from rfl]
      dsimp (config := { failIfUnchanged := false }) only
      exact .rfl)
    (fun c => by simp only [parts, Pipeline.PerCore.Seg.pipes_host, Pipeline.PerCore.Seg.pipes_region, Pipeline.PerCore.Seg.pipes_nil]; decide)
    (O₀ := O₀) (hL := L_of_ne) (G := Kept) (u₀ := u₀ (F := F))
    (hu₀ := by
      unfold u₀
      iintro Hu
      ihave H := (ownU_pair _ _) $$ Hu
      icases H with ⟨HP, HX⟩
      imodintro
      isplitl [HP]; · iexact HP
      iapply (all_kept (F := F)); iexact HX)
    (T₀ := First m) (Tₙ := Over m)
    (hch := fun c => ⟨.rfl, .rfl, .rfl⟩)
    (hinit := launch m g)
    (QY := Seen m)
    (hfin := arrays_seen m)
    (hQ := fun s h hs => ⟨fun c => by
        obtain ⟨hw, -⟩ := h c
        exact ⟨(hw 2).trans (final_2 m c), (hw 0).trans (Pipeline.Dat.arrAt_in (dats m 0 c) 0 rfl _), (hw 1).trans (Pipeline.Dat.arrAt_in (dats m 0 c) 1 rfl _)⟩,
      sem_eq_zero hs fun c sm hsm => by
        obtain rfl := unscoped_eq sm hsm
        exact (h c).2⟩)

end Cert.KernelIdeal.Talk

end

end
-- ==== Proof.Arith.lean ====
/-
# What a device accumulates, over the extended reals

The product of a received block and the matching rows of the second operand is a partial sum of the whole product; the
sixteen of them, in whatever order, add up to a row block of it; the last point turns the sum `y` into `y` times its logistic.
-/
module

public import proofs.«01_k».proof.Proof.Data
public import Idealize.ShloMosaic.Lib.MatmulPlain
public import Idealize.ShloMosaic.Lib.IdealHost
public import Idealize.ShloMosaic.Lib.ValueIdx
public import Idealize.ShloMosaic.Lib.Pipeline.Value
public import Idealize.ShloMosaic.Lib.Layout

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators

variable (m : (ℓ : Loc nD τ sig) → Buf (Elt Ideal) ℓ) (c : Dev nD)

/-! ## One block's product -/

/-- What device `d`'s columns contribute to row `i`, column `j` of device `c`'s rows of the product. -/
def Part (d : Dev nD) (i : Fin 256) (j : Fin 8192) : EReal := ∑ k : Fin 256, X m d (rowIx c i k) * Wt m c (wIx d k j)

theorem slot_at (Z : Dev nD → Vec Ideal S4096x256 .f32) (s : Dev nD) (i k : Fin 256) :
    shapeCast S256x256 (readSlot s (rb Z c)) shapeCasts_S1x256x256_S256x256 (ValueIdx.ix2 i k) = Z s (rowIx c i k) := by
  rw [shapeCast_dropUnit_apply]
  have h : readSlot s (rb Z c) (Fin.cons ⟨0, Nat.one_pos⟩ (ValueIdx.ix2 i k)) = rb Z c (ValueIdx.ix3 s i k) := by
    refine congrArg (rb Z c) (funext fun a => Fin.ext ?_)
    match a with
    | ⟨0, _⟩ => exact (by show s.val + 1 * 0 = s.val; omega)
    | ⟨1, _⟩ => exact (by show 0 + 1 * i.val = i.val; omega)
    | ⟨2, _⟩ => exact (by show 0 + 1 * k.val = k.val; omega)
  refine h.trans ?_
  show k0_pay4 (Z s) (rowIx c i k) = Z s (rowIx c i k)
  unfold k0_pay4
  rw [shapeCast_self, shapeCast_self]
  rfl

theorem dot_plain : dot_S256x256_S256x8192_S256x8192_1_0_0_1_n_n = DotDims.plain 256 256 8192 := rfl

theorem pay1_at (t : Dev nD) (i : Fin 256) (j : Fin 8192) :
    k0_pay1 (readSlot (c - t) (rb (X m) c)) (wRow m c t) (ValueIdx.ix2 i j) = Part m c (c - t) i j := by
  unfold k0_pay1
  rw [shapeCast_self]
  show FloatOps.matmul dot_S256x256_S256x8192_S256x8192_1_0_0_1_n_n none _ _ _ (ValueIdx.ix2 i j) = _
  rw [dot_plain, Ideal.matmul_plain_apply]
  refine ((congrArg (· + _) Ideal.ofBits_zero_f32).trans (zero_add _)).trans ?_
  refine Finset.sum_congr rfl fun k _ => ?_
  exact congrArg (· * _) (slot_at c (X m) (c - t) i k)

/-! ## Their sum -/

theorem acc_at : ∀ n : ℕ, n < 15 → ∀ (i : Fin 256) (j : Fin 8192),
    acc m c n (ValueIdx.ix2 i j) = ∑ t ∈ Finset.range (n + 1), Part m c (c - pt t) i j
  | 0, _, i, j => by
    rw [Finset.sum_range_one]
    show step (X m) c 0 (wRow m c 0) (wRow m c 0) (ValueIdx.ix2 i j) = _
    unfold step
    rw [if_pos (show (0 : Fin 16).val = 0 from rfl)]
    exact pay1_at m c 0 i j
  | n + 1, h, i, j => by
    have hv : (pt (n + 1)).val = n + 1 := Nat.mod_eq_of_lt (by omega)
    rw [Finset.sum_range_succ, ← acc_at n (by omega) i j, ← pay1_at]
    show step (X m) c (pt (n + 1)) (wRow m c (pt (n + 1))) (acc m c n) (ValueIdx.ix2 i j) = _
    unfold step
    rw [if_neg (by omega), if_neg (by omega)]
    unfold k0_pay2
    rw [shapeCast_self]
    rfl

/-- The sum over the distances is the sum over the devices. -/
theorem parts_sum (f : Dev nD → EReal) : ∑ t ∈ Finset.range 16, f (c - pt t) = ∑ d : Dev nD, f d := by
  rw [Finset.sum_range fun t => f (c - pt t), ← Equiv.sum_comp (Equiv.subLeft (G := Fin 16) c) f]
  exact Finset.sum_congr rfl fun t _ => congrArg (fun p => f (c - p)) (Fin.ext (Nat.mod_eq_of_lt t.isLt))

/-- A number times its logistic. -/
def silu (y : EReal) : EReal := y * Ideal.logistic y

/-- The result of device `c`. -/
theorem result_at (i : Fin 256) (j : Fin 8192) : acc m c 15 (ValueIdx.ix2 i j) = silu (∑ d : Dev nD, Part m c d i j) := by
  rw [← parts_sum c fun d => Part m c d i j, Finset.sum_range_succ, ← acc_at m c 14 (by omega) i j, ← pay1_at]
  show step (X m) c (pt 15) (wRow m c (pt 15)) (acc m c 14) (ValueIdx.ix2 i j) = _
  unfold step
  rw [if_neg (by decide), if_pos (by decide)]
  unfold k0_pay3
  rw [shapeCast_self]
  rfl

/-! ## As one sum -/

/-- Row `256 c + i` of the product. -/
def blkRow (c : Fin 16) (i : Fin 256) : Fin 4096 := ⟨256 * c.val + i.val, by have := c.isLt; have := i.isLt; omega⟩

/-- The parts of the devices, each holding its columns of `x`, add up to the whole product's element. -/
theorem whole_sum (x : FVec Ideal ⟨2, ![4096, 4096]⟩ .f32) (w : FVec Ideal ⟨2, ![4096, 8192]⟩ .f32)
    (hx : ∀ d : Dev nD, X m d = Layout.block ⟨2, ![4096, 256]⟩ ⟨2, ![4096, 4096]⟩ 1 16 d x)
    (hw : ∀ d : Dev nD, Wt m d = w) (i : Fin 256) (j : Fin 8192) :
    ∑ d : Dev nD, Part m c d i j = ∑ k : Fin 4096, x (ValueIdx.ix2 (blkRow c i) k) * w (ValueIdx.ix2 k j) := by
  have e : ∑ k : Fin 4096, x (ValueIdx.ix2 (blkRow c i) k) * w (ValueIdx.ix2 k j)
      = ∑ p : Fin 16 × Fin 256, x (ValueIdx.ix2 (blkRow c i) (blkRow p.1 p.2)) * w (ValueIdx.ix2 (blkRow p.1 p.2) j) := by
    refine (Equiv.sum_comp (finProdFinEquiv (m := 16) (n := 256)) fun k : Fin 4096 => x (ValueIdx.ix2 (blkRow c i) k) * w (ValueIdx.ix2 k j)).symm.trans ?_
    refine Finset.sum_congr rfl fun p _ => ?_
    rw [show (finProdFinEquiv p : Fin 4096) = blkRow p.1 p.2 from Fin.ext (by show p.2.val + 256 * p.1.val = 256 * p.1.val + p.2.val; omega)]
  rw [e, Fintype.sum_prod_type]
  refine Finset.sum_congr rfl fun d _ => Finset.sum_congr rfl fun k _ => ?_
  have h1 : X m d (rowIx c i k) = x (ValueIdx.ix2 (blkRow c i) (blkRow d k)) := by
    rw [hx d]
    refine congrArg x (funext fun a => Fin.ext ?_)
    match a with
    | ⟨0, _⟩ => rfl
    | ⟨1, _⟩ => exact (by show d.val * 256 + k.val = 256 * d.val + k.val; omega)
  have h2 : Wt m c (wIx d k j) = w (ValueIdx.ix2 (blkRow d k) j) := by
    rw [hw c]
    refine congrArg w (funext fun a => ?_)
    match a with
    | ⟨0, _⟩ => rfl
    | ⟨1, _⟩ => rfl
  rw [h1, h2]

end Cert.KernelIdeal.Talk

end

end
-- ==== Proof.Value.lean ====
/-
# What the reference computes, and that it is what the devices end with

The reference divides the product `y` by one plus the exponential of `-y`. At each element this is `y` times the logistic
of `y`, for every extended real `y`; and device `c` ends with the rows from `256 c` on.
-/
module

public import proofs.«01_k».proof.Proof.Arith

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators

/-! ## The quotient and the product with the logistic -/

/-- An exponential is not negative. -/
theorem exp_nonneg : ∀ z : EReal, 0 ≤ Idealize.ShloMosaic.Ideal.exp z
  | ⊥ => le_refl _
  | ⊤ => le_top
  | (r : ℝ) => EReal.coe_nonneg.mpr (Real.exp_pos r).le

/-- Dividing by `1 + e` is multiplying by the quotient of one by it, when `e` is not negative. -/
theorem div_eq_mul (y e : EReal) (he : 0 ≤ e) : Idealize.ShloMosaic.Ideal.div y (1 + e) = y * Idealize.ShloMosaic.Ideal.div 1 (1 + e) := by
  have h : (1 : EReal) + e ≠ 0 := (lt_of_lt_of_le zero_lt_one (le_add_of_nonneg_right he)).ne'
  unfold Idealize.ShloMosaic.Ideal.div
  rw [if_neg h, if_neg h, one_mul]

/-- What the reference makes of an element `y` of the product. -/
def quot (y : EReal) : EReal := Idealize.ShloMosaic.Ideal.div y (1 + Idealize.ShloMosaic.Ideal.exp (-y))

theorem logistic_eq (y : EReal) : Idealize.ShloMosaic.Ideal.logistic y = Idealize.ShloMosaic.Ideal.div 1 (1 + Idealize.ShloMosaic.Ideal.exp (-y)) := rfl

theorem quot_eq_silu (y : EReal) : quot y = silu y := by
  unfold quot silu
  rw [div_eq_mul y _ (exp_nonneg _), logistic_eq]

/-! ## The reference's array -/

abbrev Mat (r k : ℕ) : Type := FVec Ideal ⟨2, ![r, k]⟩ .f32

/-- The whole product, element by element. -/
def prod (x : Mat 4096 4096) (w : Mat 4096 8192) (r : Fin 4096) (j : Fin 8192) : EReal :=
  ∑ k : Fin 4096, x (ValueIdx.ix2 r k) * w (ValueIdx.ix2 k j)

/-- The reference's result, element by element. -/
def whole (x : Mat 4096 4096) (w : Mat 4096 8192) : Mat 4096 8192 := fun y => quot (prod x w (y 0) (y 1))

/-- Each device ends with its rows of the reference's result. -/
theorem acc_eq_block (m : (ℓ : Loc nD τ sig) → Buf (Elt Ideal) ℓ) (x : Mat 4096 4096) (w : Mat 4096 8192)
    (hx : ∀ d : Dev nD, X m d = Layout.block ⟨2, ![4096, 256]⟩ ⟨2, ![4096, 4096]⟩ 1 16 d x) (hw : ∀ d : Dev nD, Wt m d = w)
    (c : Dev nD) : acc m c 15 = Layout.block ⟨2, ![256, 8192]⟩ ⟨2, ![4096, 8192]⟩ 0 16 c (whole x w) := by
  funext y
  obtain ⟨i, j, rfl⟩ : ∃ (i : Fin 256) (j : Fin 8192), y = ValueIdx.ix2 i j := ⟨y 0, y 1, ValueIdx.eq_ix2 y⟩
  rw [result_at, whole_sum m c x w hx hw, ← quot_eq_silu]
  show quot (prod x w (blkRow c i) j) = quot (prod x w _ _)
  refine congrArg₂ (fun a b => quot (prod x w a b)) (Fin.ext ?_) (Fin.ext ?_)
  · exact (by show 256 * c.val + i.val = c.val * 256 + i.val; omega)
  · rfl

end Cert.KernelIdeal.Talk

end

end
-- ==== Proof.Ref.lean ====
/-
# The reference's array

The reference is a program of whole-array operations on one device.
-/
module

public import proofs.«01_k».proof.Proof.Value
public import proofs.«01_k».proof.Proof.Gen.ReferenceIdeal.Run
public import Idealize.ShloMosaic.Lib.StackMember

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators

/-- The operations composed are the array `whole`. -/
theorem ref_eq (x : Mat 4096 4096) (w : Mat 4096 8192) :
    Host.divf (Host.dotGeneral Cert.ReferenceIdeal.dot_S4096x4096_S4096x8192_S4096x8192_1_0_0_1_n_n none x w)
      (addf (broadcastInDim Cert.ReferenceIdeal.S4096x8192 ![] Cert.ReferenceIdeal.Gen.bcast_S_S4096x8192 (constant Cert.ReferenceIdeal.S_ .f32 0x3F800000#32))
        (Host.exp (Host.negf (Host.dotGeneral Cert.ReferenceIdeal.dot_S4096x4096_S4096x8192_S4096x8192_1_0_0_1_n_n none x w))))
      = whole x w := by
  funext y
  obtain ⟨i, j, rfl⟩ : ∃ (i : Fin 4096) (j : Fin 8192), y = ValueIdx.ix2 i j := ⟨y 0, y 1, ValueIdx.eq_ix2 y⟩
  have hd : Host.dotGeneral Cert.ReferenceIdeal.dot_S4096x4096_S4096x8192_S4096x8192_1_0_0_1_n_n none x w (ValueIdx.ix2 i j) = prod x w i j :=
    StackMember.dotGeneral_plain_apply ..
  show Idealize.ShloMosaic.Ideal.div (Host.dotGeneral (F := Ideal) _ none x w (ValueIdx.ix2 i j))
      (Idealize.ShloMosaic.Ideal.ofBits .f32 0x3F800000#32 + Idealize.ShloMosaic.Ideal.exp (-(Host.dotGeneral (F := Ideal) _ none x w (ValueIdx.ix2 i j)))) = quot (prod x w i j)
  rw [hd, Idealize.ShloMosaic.Ideal.ofBits_one_f32]
  rfl

end Cert.KernelIdeal.Talk

end

end
-- ==== Proof.Same.lean ====
/-
# The kernel over words is the kernel over the extended reals

The two programs have one text. Each function of the one equals the other's, so what is proved about the run of the second,
over any float values, is proved about the first.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The body at a point of the grid. -/
theorem body_eq : Cert.Kernel.cc0_body (F := F) = Cert.KernelIdeal.cc0_body (F := F) := rfl

/-- The table of bodies, which has one entry. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The table with the call's own loop. -/
theorem defs_eq : Cert.Kernel.defs (F := F) = Cert.KernelIdeal.defs (F := F) :=
  congrArg (Pipeline.defs Cert.KernelIdeal.pcfgs) bodies_eq

/-- The host's program. -/
theorem main_eq : Cert.Kernel.main (F := F) = Cert.KernelIdeal.main (F := F) := rfl

/-- A statement about every execution of the one is that about every execution of the other. -/
theorem run_iff (s : MemSt Cert.KernelIdeal.nD Cert.KernelIdeal.τ Cert.KernelIdeal.sig (Elt F)) (Q) :
    θ_run Cert.Kernel.defs (onTc (τ := Cert.KernelIdeal.τ) (Cert.Kernel.main (F := F))) s Q
      = θ_run Cert.KernelIdeal.defs (onTc (τ := Cert.KernelIdeal.τ) (Cert.KernelIdeal.main (F := F))) s Q := by
  have h : θ_run (Cert.Kernel.defs (F := F)) = θ_run (Cert.KernelIdeal.defs (F := F)) := congrArg θ_run defs_eq
  exact congrFun (congrArg DFunLike.coe (congrFun (congrFun h _) s)) Q

end Cert.Same

end
-- ==== Proof.Clip.lean ====
/-
# The reference with its clip

Where an element of the product lies between the two bounds, the clip leaves it as it is, and the reference with the clip
computes the same as the one without.
-/
module

public import proofs.«01_k».proof.Proof.Value
public import proofs.«01_k».proof.Proof.Gen.ClippedIdeal.Run
public import proofs.«01_k».proof.Proof.Gen.On_within_clip
public import Idealize.ShloMosaic.Lib.StackMember

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators

/-- The lower and the upper bound. -/
def lo : EReal := Idealize.ShloMosaic.Ideal.ofBits .f32 0xC2700000#32
def hi : EReal := Idealize.ShloMosaic.Ideal.ofBits .f32 0x42700000#32

/-- What the reference with the clip makes of an element `y` of the product. -/
def quotClip (y : EReal) : EReal := Idealize.ShloMosaic.Ideal.div y (1 + Idealize.ShloMosaic.Ideal.exp (-(min hi (max lo y))))

theorem quotClip_eq (y : EReal) (h₁ : lo ≤ y) (h₂ : y ≤ hi) : quotClip y = quot y := by
  unfold quotClip quot
  rw [max_eq_right h₁, min_eq_right h₂]

/-- A comparison's bit is one exactly where it holds. -/
theorem bit_and (p q : Prop) [Decidable p] [Decidable q] (h : BitVec.ofBool (decide p) &&& BitVec.ofBool (decide q) = 1#1) : p ∧ q := by
  by_cases hp : p <;> by_cases hq : q
  · exact ⟨hp, hq⟩
  all_goals simp [hp, hq] at h

/-- Where the mask is set the product's element lies between the bounds. -/
theorem bounds_of_mask (x : Mat 4096 4096) (w : Mat 4096 8192) (i : Fin 4096) (j : Fin 8192)
    (h : Cert.On_within_clip.fn (F := Ideal) x w (ValueIdx.ix2 i j) = 1#1) : lo ≤ prod x w i j ∧ prod x w i j ≤ hi := by
  have hd : Host.dotGeneral Cert.On_within_clip.dot_S4096x4096_S4096x8192_S4096x8192_1_0_0_1_n_n none x w (ValueIdx.ix2 i j) = prod x w i j :=
    StackMember.dotGeneral_plain_apply ..
  have h' : Idealize.ShloMosaic.Ideal.cmp .oge (Host.dotGeneral (F := Ideal) Cert.On_within_clip.dot_S4096x4096_S4096x8192_S4096x8192_1_0_0_1_n_n none x w (ValueIdx.ix2 i j)) lo
      &&& Idealize.ShloMosaic.Ideal.cmp .ole (Host.dotGeneral (F := Ideal) Cert.On_within_clip.dot_S4096x4096_S4096x8192_S4096x8192_1_0_0_1_n_n none x w (ValueIdx.ix2 i j)) hi = 1#1 := h
  rw [hd] at h'
  exact bit_and _ _ h'

/-- The operations composed, at an element of the result. -/
theorem clip_eq (x : Mat 4096 4096) (w : Mat 4096 8192) (i : Fin 4096) (j : Fin 8192) :
    Host.divf (Host.dotGeneral Cert.ClippedIdeal.dot_S4096x4096_S4096x8192_S4096x8192_1_0_0_1_n_n none x w)
      (addf (broadcastInDim Cert.ClippedIdeal.S4096x8192 ![] Cert.ClippedIdeal.Gen.bcast_S_S4096x8192 (constant Cert.ClippedIdeal.S_ .f32 0x3F800000#32))
        (Host.exp (Host.negf (minimumf
          (broadcastInDim Cert.ClippedIdeal.S4096x8192 ![] Cert.ClippedIdeal.Gen.bcast_S_S4096x8192 (id (constant Cert.ClippedIdeal.S_ .f32 0x42700000#32)))
          (maximumf
            (broadcastInDim Cert.ClippedIdeal.S4096x8192 ![] Cert.ClippedIdeal.Gen.bcast_S_S4096x8192 (id (constant Cert.ClippedIdeal.S_ .f32 0xC2700000#32)))
            (Host.dotGeneral Cert.ClippedIdeal.dot_S4096x4096_S4096x8192_S4096x8192_1_0_0_1_n_n none x w)))))) (ValueIdx.ix2 i j)
      = quotClip (prod x w i j) := by
  have hd : Host.dotGeneral Cert.ClippedIdeal.dot_S4096x4096_S4096x8192_S4096x8192_1_0_0_1_n_n none x w (ValueIdx.ix2 i j) = prod x w i j :=
    StackMember.dotGeneral_plain_apply ..
  show Idealize.ShloMosaic.Ideal.div (Host.dotGeneral (F := Ideal) _ none x w (ValueIdx.ix2 i j))
      (Idealize.ShloMosaic.Ideal.ofBits .f32 0x3F800000#32
        + Idealize.ShloMosaic.Ideal.exp (-(min hi (max lo (Host.dotGeneral (F := Ideal) _ none x w (ValueIdx.ix2 i j)))))) = _
  rw [hd, Idealize.ShloMosaic.Ideal.ofBits_one_f32]
  rfl

/-- Where the mask is set, any array whose elements are the clipped quotients agrees with the one without the clip. -/
theorem clip_on_mask (x : Mat 4096 4096) (w : Mat 4096 8192) (i : Shape.Idx ⟨2, ![4096, 8192]⟩)
    (h : Cert.On_within_clip.fn (F := Ideal) x w i = 1#1) (v : Mat 4096 8192)
    (hv : ∀ (a : Fin 4096) (b : Fin 8192), v (ValueIdx.ix2 a b) = quotClip (prod x w a b)) : v i = whole x w i := by
  obtain ⟨a, b, rfl⟩ : ∃ (a : Fin 4096) (b : Fin 8192), i = ValueIdx.ix2 a b := ⟨i 0, i 1, ValueIdx.eq_ix2 i⟩
  obtain ⟨h₁, h₂⟩ := bounds_of_mask x w a b h
  rw [hv, quotClip_eq _ h₁ h₂]
  rfl

end Cert.KernelIdeal.Talk

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within_clip
public import proofs.«01_k».proof.Proof.Run
public import proofs.«01_k».proof.Proof.Ref
public import proofs.«01_k».proof.Proof.Same
public import proofs.«01_k».proof.Proof.Clip
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs under every interleaving, over words: it leaves its operands as they were and every semaphore at zero. -/
theorem frame_kernel : Cert.quiescent_Kernel := fun m ρ _ => (Cert.Same.run_iff _ _).mpr
  ((θ_run Cert.KernelIdeal.defs _ _).mono (fun _ h => ⟨fun c => (h.1 c).2, h.2⟩) (Cert.KernelIdeal.Talk.run_main (F := Bits) m ρ))

/-- The same over the extended reals. -/
theorem frame_ideal : Cert.quiescent_KernelIdeal := fun m ρ _ =>
  (θ_run Cert.KernelIdeal.defs _ _).mono (fun _ h => ⟨fun c => (h.1 c).2, h.2⟩) (Cert.KernelIdeal.Talk.run_main (F := Ideal) m ρ)

/-- The reference runs, leaves its operands as they were and, declaring no semaphore, every semaphore at zero. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- Over the extended reals, from operands that are the parts of the reference's, every device ends with its rows of the
    array the reference ends with. -/
theorem algebraic : Cert.algebraic_KernelIdeal_ReferenceIdeal := by
  intro m g m' g' _ hm
  refine ⟨Cert.KernelIdeal.Talk.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (Cert.KernelIdeal.Talk.run_main (F := Ideal) m g)
    exact Cert.KernelIdeal.Talk.acc_eq_block m _ _ (fun d => (hm d).1) (fun d => (hm d).2) c
  · exact (θ_run Cert.ReferenceIdeal.defs _ _).mono (fun _ h => ⟨(h 0).1.trans (Cert.KernelIdeal.Talk.ref_eq _ _), (h 0).2⟩)
      (Cert.ReferenceIdeal.Value.run (F := Ideal) m' g')

/-- The reference with the clip runs, leaves its operands as they were and every semaphore at zero. -/
theorem frame_clipped : Cert.quiescent_ClippedIdeal := fun m ρ _ =>
  (θ_run Cert.ClippedIdeal.defs _ _).mono (fun r h => ⟨fun d => (h d).2, sem_eq_zero_of_no_sems (by decide) r.2⟩)
    (Cert.ClippedIdeal.Value.run (F := Ideal) m ρ)

/-- Over the extended reals, at every element where the product lies within the clip's bounds, every device ends with its
    rows of the array that the reference with the clip ends with. -/
theorem algebraic_clipped : Cert.algebraic_KernelIdeal_ClippedIdeal_on_within_clip := by
  intro m g m' g' _ hm
  refine ⟨Cert.KernelIdeal.Talk.whole (m' (((0 : Dev Cert.ClippedIdeal.nD).tc : Thread Cert.ClippedIdeal.nD Cert.ClippedIdeal.τ).loc Cert.ClippedIdeal.main_arg0))
    (m' (((0 : Dev Cert.ClippedIdeal.nD).tc : Thread Cert.ClippedIdeal.nD Cert.ClippedIdeal.τ).loc Cert.ClippedIdeal.main_arg1)), ?_, ?_⟩
  · refine (θ_run Cert.KernelIdeal.defs _ _).mono (fun _ h c => ⟨fun i _ => congrFun ((h.1 c).1.trans ?_) i, (h.1 c).2⟩)
      (Cert.KernelIdeal.Talk.run_main (F := Ideal) m g)
    exact Cert.KernelIdeal.Talk.acc_eq_block m _ _ (fun d => (hm d).1) (fun d => (hm d).2) c
  · exact (θ_run Cert.ClippedIdeal.defs _ _).mono (fun _ h => ⟨fun i hi => (congrFun (h 0).1 i).trans
        (Cert.KernelIdeal.Talk.clip_on_mask _ _ i hi _ (Cert.KernelIdeal.Talk.clip_eq _ _)), (h 0).2⟩)
      (Cert.ClippedIdeal.Value.run (F := Ideal) m' g')

/-- All the claims together. -/
theorem claim : Cert.Claim := ⟨Cert.Kernel.Gen.facts, Cert.KernelIdeal.Gen.facts, Cert.ReferenceIdeal.Gen.facts,
  Cert.ClippedIdeal.Gen.facts, Cert.On_within_clip.Gen.facts,
  frame_kernel, frame_ideal, frame_reference, frame_clipped, trivial, algebraic, algebraic_clipped⟩

end Cert.Proof

end
